-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1)
      ∧ r.2.mem ((c.tc : Thread Cert.PreNormRefIdeal.nD Cert.PreNormRefIdeal.τ).loc Cert.PreNormRefIdeal.main_arg2) = m ((c.tc : Thread Cert.PreNormRefIdeal.nD Cert.PreNormRefIdeal.τ).loc Cert.PreNormRefIdeal.main_arg2)
      ∧ r.2.mem ((c.tc : Thread Cert.PreNormRefIdeal.nD Cert.PreNormRefIdeal.τ).loc Cert.PreNormRefIdeal.main_arg3) = m ((c.tc : Thread Cert.PreNormRefIdeal.nD Cert.PreNormRefIdeal.τ).loc Cert.PreNormRefIdeal.main_arg3))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8)
      ∧ r.2.mem ((c.tc : Thread Cert.S5.nD Cert.S5.τ).loc Cert.S5.main_arg9) = m ((c.tc : Thread Cert.S5.nD Cert.S5.τ).loc Cert.S5.main_arg9)
      ∧ r.2.mem ((c.tc : Thread Cert.S5.nD Cert.S5.τ).loc Cert.S5.main_arg10) = m ((c.tc : Thread Cert.S5.nD Cert.S5.τ).loc Cert.S5.main_arg10))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
      ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
      ∧ r.2.mem ((c.tc : Thread Cert.S5Ideal.nD Cert.S5Ideal.τ).loc Cert.S5Ideal.main_arg10) = m ((c.tc : Thread Cert.S5Ideal.nD Cert.S5Ideal.τ).loc Cert.S5Ideal.main_arg10))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_v27) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)) (v3 : (c : Dev Cert.InProjIdeal.nD) → Buf (Elt Ideal) ((c.tc : Thread Cert.InProjIdeal.nD Cert.InProjIdeal.τ).loc Cert.InProjIdeal.main_v5_3)) (v4 : (c : Dev Cert.InProjIdeal.nD) → Buf (Elt Ideal) ((c.tc : Thread Cert.InProjIdeal.nD Cert.InProjIdeal.τ).loc Cert.InProjIdeal.main_v5_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_v5_3) = v3 c
          ∧ r.2.mem ((c.tc : Thread Cert.InProjIdeal.nD Cert.InProjIdeal.τ).loc Cert.InProjIdeal.main_v5_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_v5) = v1 c
          ∧ r.2.mem ((c.tc : Thread Cert.InProjRefIdeal.nD Cert.InProjRefIdeal.τ).loc Cert.InProjRefIdeal.main_v7) = v2 c
          ∧ r.2.mem ((c.tc : Thread Cert.InProjRefIdeal.nD Cert.InProjRefIdeal.τ).loc Cert.InProjRefIdeal.main_v9) = v3 c
          ∧ r.2.mem ((c.tc : Thread Cert.InProjRefIdeal.nD Cert.InProjRefIdeal.τ).loc Cert.InProjRefIdeal.main_v11) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v5)) (v2 : (c : Dev Cert.ConvIdeal.nD) → Buf (Elt Ideal) ((c.tc : Thread Cert.ConvIdeal.nD Cert.ConvIdeal.τ).loc Cert.ConvIdeal.main_v7)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v5) = v1 c
          ∧ r.2.mem ((c.tc : Thread Cert.ConvIdeal.nD Cert.ConvIdeal.τ).loc Cert.ConvIdeal.main_v7) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v72) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_v74) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v36) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v2_0)) (v1 : (c : Dev Cert.OProjIdeal.nD) → Buf (Elt Ideal) ((c.tc : Thread Cert.OProjIdeal.nD Cert.OProjIdeal.τ).loc Cert.OProjIdeal.main_v2_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v2_0) = v0 c
          ∧ r.2.mem ((c.tc : Thread Cert.OProjIdeal.nD Cert.OProjIdeal.τ).loc Cert.OProjIdeal.main_v2_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v21) = v0 c
          ∧ r.2.mem ((c.tc : Thread Cert.OProjRefIdeal.nD Cert.OProjRefIdeal.τ).loc Cert.OProjRefIdeal.main_v36) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)
      ∧ m' ((c.tc : Thread Cert.PreNormRefIdeal.nD Cert.PreNormRefIdeal.τ).loc Cert.PreNormRefIdeal.main_arg2) = m ((c.tc : Thread Cert.PreNormIdeal.nD Cert.PreNormIdeal.τ).loc Cert.PreNormIdeal.main_arg2)
      ∧ m' ((c.tc : Thread Cert.PreNormRefIdeal.nD Cert.PreNormRefIdeal.τ).loc Cert.PreNormRefIdeal.main_arg3) = m ((c.tc : Thread Cert.PreNormIdeal.nD Cert.PreNormIdeal.τ).loc Cert.PreNormIdeal.main_arg3)) →
    ∃ (v0 : (c : Dev Cert.PreNormIdeal.nD) → Buf (Elt Ideal) ((c.tc : Thread Cert.PreNormIdeal.nD Cert.PreNormIdeal.τ).loc Cert.PreNormIdeal.main_v2)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v2) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v20) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1)
          ∧ r.2.mem ((c.tc : Thread Cert.PreNormRefIdeal.nD Cert.PreNormRefIdeal.τ).loc Cert.PreNormRefIdeal.main_arg2) = m' ((c.tc : Thread Cert.PreNormRefIdeal.nD Cert.PreNormRefIdeal.τ).loc Cert.PreNormRefIdeal.main_arg2)
          ∧ r.2.mem ((c.tc : Thread Cert.PreNormRefIdeal.nD Cert.PreNormRefIdeal.τ).loc Cert.PreNormRefIdeal.main_arg3) = m' ((c.tc : Thread Cert.PreNormRefIdeal.nD Cert.PreNormRefIdeal.τ).loc Cert.PreNormRefIdeal.main_arg3))

def preserves_S5_S5Ideal : Prop :=
  True

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hConv : Cert.Conv.Facts) (hConvIdeal : Cert.ConvIdeal.Facts) (hConvRefIdeal : Cert.ConvRefIdeal.Facts) (hMerge : Cert.Merge.Facts) (hMergeIdeal : Cert.MergeIdeal.Facts) (hMergeRefIdeal : Cert.MergeRefIdeal.Facts) (hOProj : Cert.OProj.Facts) (hOProjIdeal : Cert.OProjIdeal.Facts) (hOProjRefIdeal : Cert.OProjRefIdeal.Facts) (hPreNorm : Cert.PreNorm.Facts) (hPreNormIdeal : Cert.PreNormIdeal.Facts) (hPreNormRefIdeal : Cert.PreNormRefIdeal.Facts) (hS5 : Cert.S5.Facts) (hS5Ideal : Cert.S5Ideal.Facts),
    quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Conv (hConv := hConv)
    ∧ quiescent_ConvIdeal (hConvIdeal := hConvIdeal)
    ∧ quiescent_ConvRefIdeal (hConvRefIdeal := hConvRefIdeal)
    ∧ quiescent_Merge (hMerge := hMerge)
    ∧ quiescent_MergeIdeal (hMergeIdeal := hMergeIdeal)
    ∧ quiescent_MergeRefIdeal (hMergeRefIdeal := hMergeRefIdeal)
    ∧ quiescent_OProj (hOProj := hOProj)
    ∧ quiescent_OProjIdeal (hOProjIdeal := hOProjIdeal)
    ∧ quiescent_OProjRefIdeal (hOProjRefIdeal := hOProjRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_S5 (hS5 := hS5)
    ∧ quiescent_S5Ideal (hS5Ideal := hS5Ideal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Conv_ConvIdeal
    ∧ algebraic_ConvIdeal_ConvRefIdeal (hConvIdeal := hConvIdeal) (hConvRefIdeal := hConvRefIdeal)
    ∧ preserves_Merge_MergeIdeal
    ∧ algebraic_MergeIdeal_MergeRefIdeal (hMergeIdeal := hMergeIdeal) (hMergeRefIdeal := hMergeRefIdeal)
    ∧ preserves_OProj_OProjIdeal
    ∧ algebraic_OProjIdeal_OProjRefIdeal (hOProjIdeal := hOProjIdeal) (hOProjRefIdeal := hOProjRefIdeal)
    ∧ preserves_PreNorm_PreNormIdeal
    ∧ algebraic_PreNormIdeal_PreNormRefIdeal (hPreNormIdeal := hPreNormIdeal) (hPreNormRefIdeal := hPreNormRefIdeal)
    ∧ preserves_S5_S5Ideal
-- ==== Ffn.lean ====
abbrev S16x576x4096 : Shape := ⟨3, ![16, 576, 4096]⟩
abbrev S4096x11008 : Shape := ⟨2, ![4096, 11008]⟩
abbrev S11008x4096 : Shape := ⟨2, ![11008, 4096]⟩
abbrev S1x4096 : Shape := ⟨2, ![1, 4096]⟩
abbrev S64x65536 : Shape := ⟨2, ![64, 65536]⟩
abbrev S512x65536 : Shape := ⟨2, ![512, 65536]⟩
abbrev S1x576x4096 : Shape := ⟨3, ![1, 576, 4096]⟩
abbrev S4096x256 : Shape := ⟨2, ![4096, 256]⟩
abbrev S256x4096 : Shape := ⟨2, ![256, 4096]⟩
abbrev S64x4096 : Shape := ⟨2, ![64, 4096]⟩
abbrev S512x4096 : Shape := ⟨2, ![512, 4096]⟩
abbrev S576x4096 : Shape := ⟨2, ![576, 4096]⟩
abbrev S576x256 : Shape := ⟨2, ![576, 256]⟩
abbrev S256x512 : Shape := ⟨2, ![256, 512]⟩
abbrev S576x512 : Shape := ⟨2, ![576, 512]⟩
abbrev S64x512 : Shape := ⟨2, ![64, 512]⟩
abbrev S512x512 : Shape := ⟨2, ![512, 512]⟩
abbrev S1x64x4096 : Shape := ⟨3, ![1, 64, 4096]⟩
abbrev S64 : Shape := ⟨1, ![64]⟩
abbrev S64x1 : Shape := ⟨2, ![64, 1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S16x576x4096, .bf16⟩
  | .hbm, ⟨1, _⟩ => ⟨S4096x11008, .bf16⟩
  | .hbm, ⟨2, _⟩ => ⟨S4096x11008, .bf16⟩
  | .hbm, ⟨3, _⟩ => ⟨S11008x4096, .bf16⟩
  | .hbm, ⟨4, _⟩ => ⟨S16x576x4096, .f32⟩
  | .hbm, ⟨5, _⟩ => ⟨S1x4096, .f32⟩
  | .hbm, ⟨6, _⟩ => ⟨S64x65536, .f32⟩
  | .hbm, ⟨7, _⟩ => ⟨S512x65536, .f32⟩
  | .local _ .vmem, ⟨0, _⟩ => ⟨S1x576x4096, .bf16⟩
  | .local _ .vmem, ⟨1, _⟩ => ⟨S1x576x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S1x576x4096, .f32⟩
  | .local _ .vmem, ⟨10, _⟩ => ⟨S64x4096, .f32⟩
  | .local _ .vmem, ⟨11, _⟩ => ⟨S64x4096, .f32⟩
  | .local _ .vmem, ⟨12, _⟩ => ⟨S512x4096, .f32⟩
  | .local _ .vmem, ⟨13, _⟩ => ⟨S512x4096, .f32⟩
  | _, _ => ⟨S16x576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x576x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x576x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S16x576x4096 : Shape := ⟨3, ![16, 576, 4096]⟩
abbrev S4096x11008 : Shape := ⟨2, ![4096, 11008]⟩
abbrev S11008x4096 : Shape := ⟨2, ![11008, 4096]⟩
abbrev S1x4096 : Shape := ⟨2, ![1, 4096]⟩
abbrev S16x576x11008 : Shape := ⟨3, ![16, 576, 11008]⟩
abbrev S_ : Shape := ⟨0, ![]⟩
abbrev S4096 : Shape := ⟨1, ![4096]⟩
abbrev S16x576 : Shape := ⟨2, ![16, 576]⟩
abbrev S16x576x1 : Shape := ⟨3, ![16, 576, 1]⟩
abbrev S1x1x4096 : Shape := ⟨3, ![1, 1, 4096]⟩
abbrev S576x16x4096 : Shape := ⟨3, ![576, 16, 4096]⟩
abbrev S576x65536 : Shape := ⟨2, ![576, 65536]⟩
abbrev S64x65536 : Shape := ⟨2, ![64, 65536]⟩
abbrev S512x65536 : Shape := ⟨2, ![512, 65536]⟩

abbrev nBuf : Space → Nat
  | .hbm => 45
  | .vmem => 0
  | .smem => 0
  | _ => 0

abbrev bufTy : (tb : Table) → Fin (tcTables nBuf tb) → BufTy
  | .hbm, ⟨0, _⟩ => ⟨S16x576x4096, .bf16⟩
  | .hbm, ⟨1, _⟩ => ⟨S4096x11008, .bf16⟩
  | .hbm, ⟨2, _⟩ => ⟨S4096x11008, .bf16⟩
  | .hbm, ⟨3, _⟩ => ⟨S11008x4096, .bf16⟩
  | .hbm, ⟨4, _⟩ => ⟨S16x576x4096, .f32⟩
  | .hbm, ⟨5, _⟩ => ⟨S1x4096, .f32⟩
  | .hbm, ⟨6, _⟩ => ⟨S16x576x4096, .f32⟩
  | .hbm, ⟨7, _⟩ => ⟨S4096x11008, .f32⟩
  | .hbm, ⟨8, _⟩ => ⟨S16x576x11008, .f32⟩
  | .hbm, ⟨9, _⟩ => ⟨S16x576x11008, .f32⟩
  | .hbm, ⟨10, _⟩ => ⟨S16x576x11008, .f32⟩
  | .hbm, ⟨11, _⟩ => ⟨S_, .f32⟩
  | .hbm, ⟨12, _⟩ => ⟨S16x576x11008, .f32⟩
  | .hbm, ⟨13, _⟩ => ⟨S16x576x11008, .f32⟩
  | .hbm, ⟨14, _⟩ => ⟨S_, .f32⟩
  | .hbm, ⟨15, _⟩ => ⟨S16x576x11008, .f32⟩
  | .hbm, ⟨16, _⟩ => ⟨S16x576x11008, .f32⟩
  | .hbm, ⟨17, _⟩ => ⟨S16x576x11008, .f32⟩
  | .hbm, ⟨18, _⟩ => ⟨S4096x11008, .f32⟩
  | .hbm, ⟨19, _⟩ => ⟨S16x576x11008, .f32⟩
  | .hbm, ⟨20, _⟩ => ⟨S16x576x11008, .f32⟩
  | .hbm, ⟨21, _⟩ => ⟨S11008x4096, .f32⟩
  | .hbm, ⟨22, _⟩ => ⟨S16x576x4096, .f32⟩
  | .hbm, ⟨23, _⟩ => ⟨S4096, .f32⟩
  | .hbm, ⟨24, _⟩ => ⟨S16x576x4096, .f32⟩
  | .hbm, ⟨25, _⟩ => ⟨S_, .f32⟩
  | .hbm, ⟨26, _⟩ => ⟨S16x576, .f32⟩
  | .hbm, ⟨27, _⟩ => ⟨S16x576x1, .f32⟩
  | .hbm, ⟨28, _⟩ => ⟨S_, .f32⟩
  | .hbm, ⟨29, _⟩ => ⟨S16x576x1, .f32⟩
  | .hbm, ⟨30, _⟩ => ⟨S16x576x1, .f32⟩
  | .hbm, ⟨31, _⟩ => ⟨S_, .f32⟩
  | .hbm, ⟨32, _⟩ => ⟨S16x576x1, .f32⟩
  | .hbm, ⟨33, _⟩ => ⟨S16x576x1, .f32⟩
  | .hbm, ⟨34, _⟩ => ⟨S16x576x1, .f32⟩
  | .hbm, ⟨35, _⟩ => ⟨S16x576x4096, .f32⟩
  | .hbm, ⟨36, _⟩ => ⟨S16x576x4096, .f32⟩
  | .hbm, ⟨37, _⟩ => ⟨S1x1x4096, .f32⟩
  | .hbm, ⟨38, _⟩ => ⟨S16x576x4096, .f32⟩
  | .hbm, ⟨39, _⟩ => ⟨S16x576x4096, .f32⟩
  | .hbm, ⟨40, _⟩ => ⟨S16x576x4096, .f32⟩
  | .hbm, ⟨41, _⟩ => ⟨S576x16x4096, .f32⟩
  | .hbm, ⟨42, _⟩ => ⟨S576x65536, .f32⟩
  | .hbm, ⟨43, _⟩ => ⟨S64x65536, .f32⟩
  | .hbm, ⟨44, _⟩ => ⟨S512x65536, .f32⟩
  | _, _ => ⟨S16x576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== InProj.lean ====
abbrev S16x580x4096 : Shape := ⟨3, ![16, 580, 4096]⟩
abbrev S1x4096x16384 : Shape := ⟨3, ![1, 4096, 16384]⟩
abbrev S1x4096x11008 : Shape := ⟨3, ![1, 4096, 11008]⟩
abbrev S1x11008x4096 : Shape := ⟨3, ![1, 11008, 4096]⟩
abbrev S1x4096x4096 : Shape := ⟨3, ![1, 4096, 4096]⟩
abbrev S4096x16384 : Shape := ⟨2, ![4096, 16384]⟩
abbrev S4096x11008 : Shape := ⟨2, ![4096, 11008]⟩
abbrev S11008x4096 : Shape := ⟨2, ![11008, 4096]⟩
abbrev S4096x4096 : Shape := ⟨2, ![4096, 4096]⟩
abbrev S16x580x16384 : Shape := ⟨3, ![16, 580, 16384]⟩
abbrev S1x580x4096 : Shape := ⟨3, ![1, 580, 4096]⟩
abbrev S4096x512 : Shape := ⟨2, ![4096, 512]⟩
abbrev S16x11008 : Shape := ⟨2, ![16, 11008]⟩
abbrev S32x4096 : Shape := ⟨2, ![32, 4096]⟩
abbrev S16x4096 : Shape := ⟨2, ![16, 4096]⟩
abbrev S1x580x512 : Shape := ⟨3, ![1, 580, 512]⟩
abbrev S580x4096 : Shape := ⟨2, ![580, 4096]⟩
abbrev S580x512 : Shape := ⟨2, ![580, 512]⟩

abbrev nBuf : Space → Nat
  | .hbm => 16
  | .vmem => 23
  | .smem => 0
  | _ => 0

abbrev bufTy : (tb : Table) → Fin (tcTables nBuf tb) → BufTy
  | .hbm, ⟨0, _⟩ => ⟨S16x580x4096, .bf16⟩
  | .hbm, ⟨1, _⟩ => ⟨S1x4096x16384, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S1x4096x4096, .f32⟩
  | .hbm, ⟨6, _⟩ => ⟨S4096x16384, .f32⟩
  | .hbm, ⟨7, _⟩ => ⟨S4096x11008, .f32⟩
  | .hbm, ⟨8, _⟩ => ⟨S4096x11008, .f32⟩
  | .hbm, ⟨9, _⟩ => ⟨S11008x4096, .f32⟩
  | .hbm, ⟨10, _⟩ => ⟨S4096x4096, .f32⟩
  | .hbm, ⟨11, _⟩ => ⟨S16x580x16384, .bf16⟩
  | .hbm, ⟨12, _⟩ => ⟨S4096x11008, .bf16⟩
  | .hbm, ⟨13, _⟩ => ⟨S4096x11008, .bf16⟩
  | .hbm, ⟨14, _⟩ => ⟨S11008x4096, .bf16⟩
  | .hbm, ⟨15, _⟩ => ⟨S4096x4096, .bf16⟩
  | .local _ .vmem, ⟨0, _⟩ => ⟨S1x580x4096, .bf16⟩
  | .local _ .vmem, ⟨1, _⟩ => ⟨S1x580x4096, .bf16⟩
  | .local _ .vmem, ⟨2, _⟩ => ⟨S4096x512, .f32⟩
  | .local _ .vmem, ⟨3, _⟩ => ⟨S4096x512, .f32⟩
  | .local _ .vmem, ⟨4, _⟩ => ⟨S16x11008, .f32⟩
  | .local _ .vmem, ⟨5, _⟩ => ⟨S16x11008, .f32⟩
  | .local _ .vmem, ⟨6, _⟩ => ⟨S16x11008, .f32⟩
  | .local _ .vmem, ⟨7, _⟩ => ⟨S16x11008, .f32⟩
  | .local _ .vmem, ⟨8, _⟩ => ⟨S32x4096, .f32⟩
  | .local _ .vmem, ⟨9, _⟩ => ⟨S32x4096, .f32⟩
  | .local _ .vmem, ⟨10, _⟩ => ⟨S16x4096, .f32⟩
  | .local _ .vmem, ⟨11, _⟩ => ⟨S16x4096, .f32⟩
  | .local _ .vmem, ⟨12, _⟩ => ⟨S1x580x512, .bf16⟩
  | .local _ .vmem, ⟨13, _⟩ => ⟨S1x580x512, .bf16⟩
  | .local _ .vmem, ⟨14, _⟩ => ⟨S16x11008, .bf16⟩
  | .local _ .vmem, ⟨15, _⟩ => ⟨S16x11008, .bf16⟩
  | .local _ .vmem, ⟨16, _⟩ => ⟨S16x11008, .bf16⟩
  | .local _ .vmem, ⟨17, _⟩ => ⟨S16x11008, .bf16⟩
  | .local _ .vmem, ⟨18, _⟩ => ⟨S32x4096, .bf16⟩
  | .local _ .vmem, ⟨19, _⟩ => ⟨S32x4096, .bf16⟩
  | .local _ .vmem, ⟨20, _⟩ => ⟨S16x4096, .bf16⟩
  | .local _ .vmem, ⟨21, _⟩ => ⟨S16x4096, .bf16⟩
  | .local _ .vmem, ⟨22, _⟩ => ⟨S4096x512, .bf16⟩
  | _, _ => ⟨S16x580x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x580x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x580x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x11008 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x11008 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== InProjRefIdeal.lean ====
abbrev S16x580x4096 : Shape := ⟨3, ![16, 580, 4096]⟩
abbrev S1x4096x16384 : Shape := ⟨3, ![1, 4096, 16384]⟩
abbrev S1x4096x11008 : Shape := ⟨3, ![1, 4096, 11008]⟩
abbrev S1x11008x4096 : Shape := ⟨3, ![1, 11008, 4096]⟩
abbrev S1x4096x4096 : Shape := ⟨3, ![1, 4096, 4096]⟩
abbrev S4096x16384 : Shape := ⟨2, ![4096, 16384]⟩
abbrev S16x580x16384 : Shape := ⟨3, ![16, 580, 16384]⟩
abbrev S4096x11008 : Shape := ⟨2, ![4096, 11008]⟩
abbrev S11008x4096 : Shape := ⟨2, ![11008, 4096]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16x580x4096, .bf16⟩
  | .hbm, ⟨1, _⟩ => ⟨S1x4096x16384, .f32⟩
  | .hbm, ⟨2, _⟩ => ⟨S1x4096x11008, .f32⟩
  | .hbm, ⟨3, _⟩ => ⟨S1x4096x11008, .f32⟩
  | .hbm, ⟨4, _⟩ => ⟨S1x11008x4096, .f32⟩
  | .hbm, ⟨5, _⟩ => ⟨S1x4096x4096, .f32⟩
  | .hbm, ⟨6, _⟩ => ⟨S16x580x4096, .f32⟩
  | .hbm, ⟨7, _⟩ => ⟨S4096x16384, .f32⟩
  | .hbm, ⟨8, _⟩ => ⟨S16x580x16384, .f32⟩
  | .hbm, ⟨9, _⟩ => ⟨S16x580x16384, .bf16⟩
  | .hbm, ⟨10, _⟩ => ⟨S4096x11008, .f32⟩
  | .hbm, ⟨11, _⟩ => ⟨S4096x11008, .bf16⟩
  | .hbm, ⟨12, _⟩ => ⟨S4096x11008, .f32⟩
  | .hbm, ⟨13, _⟩ => ⟨S4096x11008, .bf16⟩
  | .hbm, ⟨14, _⟩ => ⟨S11008x4096, .f32⟩
  | .hbm, ⟨15, _⟩ => ⟨S11008x4096, .bf16⟩
  | .hbm, ⟨16, _⟩ => ⟨S4096x4096, .f32⟩
  | .hbm, ⟨17, _⟩ => ⟨S4096x4096, .bf16⟩
  | _, _ => ⟨S16x580x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Conv.lean ====
abbrev S16x580x16384 : Shape := ⟨3, ![16, 580, 16384]⟩
abbrev S1x3x2048 : Shape := ⟨3, ![1, 3, 2048]⟩
abbrev S1x128x2x2048 : Shape := ⟨4, ![1, 128, 2, 2048]⟩
abbrev S64x2x2x2048 : Shape := ⟨4, ![64, 2, 2, 2048]⟩
abbrev S2x2x64x2048 : Shape := ⟨4, ![2, 2, 64, 2048]⟩
abbrev S3x2048 : Shape := ⟨2, ![3, 2048]⟩
abbrev S16x580x2048 : Shape := ⟨3, ![16, 580, 2048]⟩
abbrev S2x4x2048 : Shape := ⟨3, ![2, 4, 2048]⟩
abbrev S16x580x128 : Shape := ⟨3, ![16, 580, 128]⟩
abbrev S3x128 : Shape := ⟨2, ![3, 128]⟩
abbrev S2x2x64x128 : Shape := ⟨4, ![2, 2, 64, 128]⟩
abbrev S2x4x128 : Shape := ⟨3, ![2, 4, 128]⟩
abbrev S2x596x128 : Shape := ⟨3, ![2, 596, 128]⟩
abbrev S1x128 : Shape := ⟨2, ![1, 128]⟩
abbrev S1x580x128 : Shape := ⟨3, ![1, 580, 128]⟩
abbrev S580x128 : Shape := ⟨2, ![580, 128]⟩
abbrev S512x128 : Shape := ⟨2, ![512, 128]⟩
abbrev S1x512x128 : Shape := ⟨3, ![1, 512, 128]⟩
abbrev S1x1x128 : Shape := ⟨3, ![1, 1, 128]⟩
abbrev S4x128 : Shape := ⟨2, ![4, 128]⟩
abbrev S516x128 : Shape := ⟨2, ![516, 128]⟩
abbrev S64x128 : Shape := ⟨2, ![64, 128]⟩
abbrev S1x516x128 : Shape := ⟨3, ![1, 516, 128]⟩
abbrev S1x1x64x128 : Shape := ⟨4, ![1, 1, 64, 128]⟩
abbrev S1x64x128 : Shape := ⟨3, ![1, 64, 128]⟩
abbrev S4x2x2048 : Shape := ⟨3, ![4, 2, 2048]⟩
abbrev S1x4x2x2048 : Shape := ⟨4, ![1, 4, 2, 2048]⟩

abbrev nBuf : Space → Nat
  | .hbm => 13
  | .vmem => 17
  | .smem => 0
  | _ => 0

abbrev bufTy : (tb : Table) → Fin (tcTables nBuf tb) → BufTy
  | .hbm, ⟨0, _⟩ => ⟨S16x580x16384, .bf16⟩
  | .hbm, ⟨1, _⟩ => ⟨S1x3x2048, .f32⟩
  | .hbm, ⟨2, _⟩ => ⟨S1x128x2x2048, .f32⟩
  | .hbm, ⟨3, _⟩ => ⟨S64x2x2x2048, .f32⟩
  | .hbm, ⟨4, _⟩ => ⟨S2x2x64x2048, .f32⟩
  | .hbm, ⟨5, _⟩ => ⟨S3x2048, .f32⟩
  | .hbm, ⟨6, _⟩ => ⟨S16x580x2048, .bf16⟩
  | .hbm, ⟨7, _⟩ => ⟨S2x2x64x2048, .f32⟩
  | .hbm, ⟨8, _⟩ => ⟨S2x4x2048, .f32⟩
  | .hbm, ⟨9, _⟩ => ⟨S4x2x2048, .f32⟩
  | .hbm, ⟨10, _⟩ => ⟨S1x4x2x2048, .f32⟩
  | .hbm, ⟨11, _⟩ => ⟨S64x2x2x2048, .f32⟩
  | .hbm, ⟨12, _⟩ => ⟨S1x128x2x2048, .f32⟩
  | .local _ .vmem, ⟨0, _⟩ => ⟨S16x580x128, .bf16⟩
  | .local _ .vmem, ⟨1, _⟩ => ⟨S16x580x128, .bf16⟩
  | .local _ .vmem, ⟨2, _⟩ => ⟨S16x580x128, .bf16⟩
  | .local _ .vmem, ⟨3, _⟩ => ⟨S16x580x128, .bf16⟩
  | .local _ .vmem, ⟨4, _⟩ => ⟨S16x580x128, .bf16⟩
  | .local _ .vmem, ⟨5, _⟩ => ⟨S16x580x128, .bf16⟩
  | .local _ .vmem, ⟨6, _⟩ => ⟨S3x128, .f32⟩
  | .local _ .vmem, ⟨7, _⟩ => ⟨S3x128, .f32⟩
  | .local _ .vmem, ⟨8, _⟩ => ⟨S2x2x64x128, .f32⟩
  | .local _ .vmem, ⟨9, _⟩ => ⟨S2x2x64x128, .f32⟩
  | .local _ .vmem, ⟨10, _⟩ => ⟨S16x580x128, .bf16⟩
  | .local _ .vmem, ⟨11, _⟩ => ⟨S16x580x128, .bf16⟩
  | .local _ .vmem, ⟨12, _⟩ => ⟨S2x2x64x128, .f32⟩
  | .local _ .vmem, ⟨13, _⟩ => ⟨S2x2x64x128, .f32⟩
  | .local _ .vmem, ⟨14, _⟩ => ⟨S2x4x128, .f32⟩
  | .local _ .vmem, ⟨15, _⟩ => ⟨S2x4x128, .f32⟩
  | .local _ .vmem, ⟨16, _⟩ => ⟨S2x596x128, .f32⟩
  | _, _ => ⟨S16x580x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x580x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x580x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x580x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x580x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S16x580x16384 : Shape := ⟨3, ![16, 580, 16384]⟩
abbrev S1x3x2048 : Shape := ⟨3, ![1, 3, 2048]⟩
abbrev S1x128x2x2048 : Shape := ⟨4, ![1, 128, 2, 2048]⟩
abbrev S580x16x16384 : Shape := ⟨3, ![580, 16, 16384]⟩
abbrev S64x16x16384 : Shape := ⟨3, ![64, 16, 16384]⟩
abbrev S128x8x16384 : Shape := ⟨3, ![128, 8, 16384]⟩
abbrev S4x16x16384 : Shape := ⟨3, ![4, 16, 16384]⟩
abbrev S512x16x16384 : Shape := ⟨3, ![512, 16, 16384]⟩
abbrev S4x2048x16384 : Shape := ⟨3, ![4, 2048, 16384]⟩
abbrev S4x2064x16384 : Shape := ⟨3, ![4, 2064, 16384]⟩
abbrev S4x2064x2048 : Shape := ⟨3, ![4, 2064, 2048]⟩
abbrev S_ : Shape := ⟨0, ![]⟩
abbrev S4x2x2048 : Shape := ⟨3, ![4, 2, 2048]⟩
abbrev S3x2048 : Shape := ⟨2, ![3, 2048]⟩
abbrev S4x2066x2048 : Shape := ⟨3, ![4, 2066, 2048]⟩
abbrev S1x2048 : Shape := ⟨2, ![1, 2048]⟩
abbrev S2048 : Shape := ⟨1, ![2048]⟩
abbrev S1x1x2048 : Shape := ⟨3, ![1, 1, 2048]⟩
abbrev S128x8x2048 : Shape := ⟨3, ![128, 8, 2048]⟩
abbrev S128x2x2048 : Shape := ⟨3, ![128, 2, 2048]⟩
abbrev S128x10x2048 : Shape := ⟨3, ![128, 10, 2048]⟩
abbrev S64x16x2048 : Shape := ⟨3, ![64, 16, 2048]⟩
abbrev S4x2048x2048 : Shape := ⟨3, ![4, 2048, 2048]⟩
abbrev S512x16x2048 : Shape := ⟨3, ![512, 16, 2048]⟩
abbrev S4x16x2048 : Shape := ⟨3, ![4, 16, 2048]⟩
abbrev S580x16x2048 : Shape := ⟨3, ![580, 16, 2048]⟩
abbrev S16x580x2048 : Shape := ⟨3, ![16, 580, 2048]⟩
abbrev S1x4x2x2048 : Shape := ⟨4, ![1, 4, 2, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16x580x16384, .bf16⟩
  | .hbm, ⟨1, _⟩ => ⟨S1x3x2048, .f32⟩
  | .hbm, ⟨2, _⟩ => ⟨S1x128x2x2048, .f32⟩
  | .hbm, ⟨3, _⟩ => ⟨S16x580x16384, .f32⟩
  | .hbm, ⟨4, _⟩ => ⟨S580x16x16384, .f32⟩
  | .hbm, ⟨5, _⟩ => ⟨S64x16x16384, .f32⟩
  | .hbm, ⟨6, _⟩ => ⟨S128x8x16384, .f32⟩
  | .hbm, ⟨7, _⟩ => ⟨S4x16x16384, .f32⟩
  | .hbm, ⟨8, _⟩ => ⟨S512x16x16384, .f32⟩
  | .hbm, ⟨9, _⟩ => ⟨S4x2048x16384, .f32⟩
  | .hbm, ⟨10, _⟩ => ⟨S4x2064x16384, .f32⟩
  | .hbm, ⟨11, _⟩ => ⟨S4x2064x2048, .f32⟩
  | .hbm, ⟨12, _⟩ => ⟨S4x2064x2048, .f32⟩
  | .hbm, ⟨13, _⟩ => ⟨S4x2064x2048, .f32⟩
  | .hbm, ⟨14, _⟩ => ⟨S_, .f32⟩
  | .hbm, ⟨15, _⟩ => ⟨S4x2x2048, .f32⟩
  | .hbm, ⟨16, _⟩ => ⟨S3x2048, .f32⟩
  | .hbm, ⟨17, _⟩ => ⟨S4x2064x2048, .f32⟩
  | .hbm, ⟨18, _⟩ => ⟨S4x2066x2048, .f32⟩
  | .hbm, ⟨19, _⟩ => ⟨S1x2048, .f32⟩
  | .hbm, ⟨20, _⟩ => ⟨S2048, .f32⟩
  | .hbm, ⟨21, _⟩ => ⟨S4x2064x2048, .f32⟩
  | .hbm, ⟨22, _⟩ => ⟨S1x1x2048, .f32⟩
  | .hbm, ⟨23, _⟩ => ⟨S4x2064x2048, .f32⟩
  | .hbm, ⟨24, _⟩ => ⟨S4x2064x2048, .f32⟩
  | .hbm, ⟨25, _⟩ => ⟨S1x2048, .f32⟩
  | .hbm, ⟨26, _⟩ => ⟨S2048, .f32⟩
  | .hbm, ⟨27, _⟩ => ⟨S4x2064x2048, .f32⟩
  | .hbm, ⟨28, _⟩ => ⟨S1x1x2048, .f32⟩
  | .hbm, ⟨29, _⟩ => ⟨S4x2064x2048, .f32⟩
  | .hbm, ⟨30, _⟩ => ⟨S4x2064x2048, .f32⟩
  | .hbm, ⟨31, _⟩ => ⟨S4x2064x2048, .f32⟩
  | .hbm, ⟨32, _⟩ => ⟨S1x2048, .f32⟩
  | .hbm, ⟨33, _⟩ => ⟨S2048, .f32⟩
  | .hbm, ⟨34, _⟩ => ⟨S4x2064x2048, .f32⟩
  | .hbm, ⟨35, _⟩ => ⟨S1x1x2048, .f32⟩
  | .hbm, ⟨36, _⟩ => ⟨S4x2064x2048, .f32⟩
  | .hbm, ⟨37, _⟩ => ⟨S4x2064x2048, .f32⟩
  | .hbm, ⟨38, _⟩ => ⟨S4x2064x2048, .f32⟩
  | .hbm, ⟨39, _⟩ => ⟨S4x2064x2048, .f32⟩
  | .hbm, ⟨40, _⟩ => ⟨S4x2x2048, .f32⟩
  | .hbm, ⟨41, _⟩ => ⟨S128x8x2048, .f32⟩
  | .hbm, ⟨42, _⟩ => ⟨S128x8x2048, .f32⟩
  | .hbm, ⟨43, _⟩ => ⟨S128x8x2048, .f32⟩
  | .hbm, ⟨44, _⟩ => ⟨S128x2x2048, .f32⟩
  | .hbm, ⟨45, _⟩ => ⟨S3x2048, .f32⟩
  | .hbm, ⟨46, _⟩ => ⟨S128x8x2048, .f32⟩
  | .hbm, ⟨47, _⟩ => ⟨S128x10x2048, .f32⟩
  | .hbm, ⟨48, _⟩ => ⟨S1x2048, .f32⟩
  | .hbm, ⟨49, _⟩ => ⟨S2048, .f32⟩
  | .hbm, ⟨50, _⟩ => ⟨S128x8x2048, .f32⟩
  | .hbm, ⟨51, _⟩ => ⟨S1x1x2048, .f32⟩
  | .hbm, ⟨52, _⟩ => ⟨S128x8x2048, .f32⟩
  | .hbm, ⟨53, _⟩ => ⟨S128x8x2048, .f32⟩
  | .hbm, ⟨54, _⟩ => ⟨S1x2048, .f32⟩
  | .hbm, ⟨55, _⟩ => ⟨S2048, .f32⟩
  | .hbm, ⟨56, _⟩ => ⟨S128x8x2048, .f32⟩
  | .hbm, ⟨57, _⟩ => ⟨S1x1x2048, .f32⟩
  | .hbm, ⟨58, _⟩ => ⟨S128x8x2048, .f32⟩
  | .hbm, ⟨59, _⟩ => ⟨S128x8x2048, .f32⟩
  | .hbm, ⟨60, _⟩ => ⟨S128x8x2048, .f32⟩
  | .hbm, ⟨61, _⟩ => ⟨S1x2048, .f32⟩
  | .hbm, ⟨62, _⟩ => ⟨S2048, .f32⟩
  | .hbm, ⟨63, _⟩ => ⟨S128x8x2048, .f32⟩
  | .hbm, ⟨64, _⟩ => ⟨S1x1x2048, .f32⟩
  | .hbm, ⟨65, _⟩ => ⟨S128x8x2048, .f32⟩
  | .hbm, ⟨66, _⟩ => ⟨S128x8x2048, .f32⟩
  | .hbm, ⟨67, _⟩ => ⟨S128x8x2048, .f32⟩
  | .hbm, ⟨68, _⟩ => ⟨S128x8x2048, .f32⟩
  | .hbm, ⟨69, _⟩ => ⟨S128x2x2048, .f32⟩
  | .hbm, ⟨70, _⟩ => ⟨S64x16x2048, .f32⟩
  | .hbm, ⟨71, _⟩ => ⟨S4x2048x2048, .f32⟩
  | .hbm, ⟨72, _⟩ => ⟨S512x16x2048, .f32⟩
  | .hbm, ⟨73, _⟩ => ⟨S4x16x2048, .f32⟩
  | .hbm, ⟨74, _⟩ => ⟨S580x16x2048, .f32⟩
  | .hbm, ⟨75, _⟩ => ⟨S16x580x2048, .f32⟩
  | .hbm, ⟨76, _⟩ => ⟨S16x580x2048, .bf16⟩
  | .hbm, ⟨77, _⟩ => ⟨S1x4x2x2048, .f32⟩
  | .hbm, ⟨78, _⟩ => ⟨S1x128x2x2048, .f32⟩
  | _, _ => ⟨S16x580x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩

abbrev nD : Nat := 1
abbrev τ : Topo := Topo.v7x

variable {F : FTy → Type} [FloatOps F]
-- ==== Merge.lean ====
abbrev S16x580x2048 : Shape := ⟨3, ![16, 580, 2048]⟩
abbrev S16x580x16384 : Shape := ⟨3, ![16, 580, 16384]⟩
abbrev S1x2048x4096 : Shape := ⟨3, ![1, 2048, 4096]⟩
abbrev S2048x4096 : Shape := ⟨2, ![2048, 4096]⟩
abbrev S16x576x4096 : Shape := ⟨3, ![16, 576, 4096]⟩
abbrev S1x576x2048 : Shape := ⟨3, ![1, 576, 2048]⟩
abbrev S1x576x512 : Shape := ⟨3, ![1, 576, 512]⟩
abbrev S2048x512 : Shape := ⟨2, ![2048, 512]⟩
abbrev S576x2048 : Shape := ⟨2, ![576, 2048]⟩
abbrev S576x512 : Shape := ⟨2, ![576, 512]⟩

abbrev nBuf : Space → Nat
  | .hbm => 10
  | .vmem => 19
  | .smem => 0
  | _ => 0

abbrev bufTy : (tb : Table) → Fin (tcTables nBuf tb) → BufTy
  | .hbm, ⟨0, _⟩ => ⟨S16x580x2048, .bf16⟩
  | .hbm, ⟨1, _⟩ => ⟨S16x580x2048, .bf16⟩
  | .hbm, ⟨2, _⟩ => ⟨S16x580x16384, .bf16⟩
  | .hbm, ⟨3, _⟩ => ⟨S1x2048x4096, .f32⟩
  | .hbm, ⟨4, _⟩ => ⟨S1x2048x4096, .f32⟩
  | .hbm, ⟨5, _⟩ => ⟨S1x2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S16x576x4096, .bf16⟩
  | .local _ .vmem, ⟨0, _⟩ => ⟨S1x576x2048, .bf16⟩
  | .local _ .vmem, ⟨1, _⟩ => ⟨S1x576x2048, .bf16⟩
  | .local _ .vmem, ⟨2, _⟩ => ⟨S1x576x2048, .bf16⟩
  | .local _ .vmem, ⟨3, _⟩ => ⟨S1x576x2048, .bf16⟩
  | .local _ .vmem, ⟨4, _⟩ => ⟨S1x576x512, .bf16⟩
  | .local _ .vmem, ⟨5, _⟩ => ⟨S1x576x512, .bf16⟩
  | .local _ .vmem, ⟨6, _⟩ => ⟨S1x576x512, .bf16⟩
  | .local _ .vmem, ⟨7, _⟩ => ⟨S1x576x512, .bf16⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S1x576x512, .bf16⟩
  | .local _ .vmem, ⟨15, _⟩ => ⟨S1x576x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | _, _ => ⟨S16x580x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![arg1.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x576x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x576x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x576x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x576x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x576x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16x580x2048 : Shape := ⟨3, ![16, 580, 2048]⟩
abbrev S16x580x16384 : Shape := ⟨3, ![16, 580, 16384]⟩
abbrev S1x2048x4096 : Shape := ⟨3, ![1, 2048, 4096]⟩
abbrev S16x576x2048 : Shape := ⟨3, ![16, 576, 2048]⟩
abbrev S16x576x16384 : Shape := ⟨3, ![16, 576, 16384]⟩
abbrev S2048x4096 : Shape := ⟨2, ![2048, 4096]⟩
abbrev S16x576x4096 : Shape := ⟨3, ![16, 576, 4096]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16x580x2048, .bf16⟩
  | .hbm, ⟨1, _⟩ => ⟨S16x580x2048, .bf16⟩
  | .hbm, ⟨2, _⟩ => ⟨S16x580x16384, .bf16⟩
  | .hbm, ⟨3, _⟩ => ⟨S1x2048x4096, .f32⟩
  | .hbm, ⟨4, _⟩ => ⟨S1x2048x4096, .f32⟩
  | .hbm, ⟨5, _⟩ => ⟨S1x2048x4096, .f32⟩
  | .hbm, ⟨6, _⟩ => ⟨S16x576x2048, .bf16⟩
  | .hbm, ⟨7, _⟩ => ⟨S16x576x2048, .f32⟩
  | .hbm, ⟨8, _⟩ => ⟨S16x576x2048, .bf16⟩
  | .hbm, ⟨9, _⟩ => ⟨S16x576x2048, .f32⟩
  | .hbm, ⟨10, _⟩ => ⟨S16x576x16384, .bf16⟩
  | .hbm, ⟨11, _⟩ => ⟨S16x576x16384, .f32⟩
  | .hbm, ⟨12, _⟩ => ⟨S2048x4096, .f32⟩
  | .hbm, ⟨13, _⟩ => ⟨S16x576x4096, .f32⟩
  | .hbm, ⟨14, _⟩ => ⟨S2048x4096, .f32⟩
  | .hbm, ⟨15, _⟩ => ⟨S16x576x4096, .f32⟩
  | .hbm, ⟨16, _⟩ => ⟨S16x576x4096, .f32⟩
  | .hbm, ⟨17, _⟩ => ⟨S16x576x4096, .f32⟩
  | .hbm, ⟨18, _⟩ => ⟨S_, .f32⟩
  | .hbm, ⟨19, _⟩ => ⟨S16x576x4096, .f32⟩
  | .hbm, ⟨20, _⟩ => ⟨S16x576x4096, .f32⟩
  | .hbm, ⟨21, _⟩ => ⟨S_, .f32⟩
  | .hbm, ⟨22, _⟩ => ⟨S16x576x4096, .f32⟩
  | .hbm, ⟨23, _⟩ => ⟨S16x576x4096, .f32⟩
  | .hbm, ⟨24, _⟩ => ⟨S16x576x4096, .f32⟩
  | .hbm, ⟨25, _⟩ => ⟨S2048x4096, .f32⟩
  | .hbm, ⟨26, _⟩ => ⟨S16x576x4096, .f32⟩
  | .hbm, ⟨27, _⟩ => ⟨S16x576x4096, .f32⟩
  | .hbm, ⟨28, _⟩ => ⟨S16x576x4096, .f32⟩
  | .hbm, ⟨29, _⟩ => ⟨S16x576x4096, .f32⟩
  | .hbm, ⟨30, _⟩ => ⟨S_, .f32⟩
  | .hbm, ⟨31, _⟩ => ⟨S16x576x4096, .f32⟩
  | .hbm, ⟨32, _⟩ => ⟨S16x576x4096, .f32⟩
  | .hbm, ⟨33, _⟩ => ⟨S_, .f32⟩
  | .hbm, ⟨34, _⟩ => ⟨S16x576x4096, .f32⟩
  | .hbm, ⟨35, _⟩ => ⟨S16x576x4096, .f32⟩
  | .hbm, ⟨36, _⟩ => ⟨S16x576x4096, .f32⟩
  | .hbm, ⟨37, _⟩ => ⟨S16x576x4096, .f32⟩
  | .hbm, ⟨38, _⟩ => ⟨S16x576x4096, .f32⟩
  | .hbm, ⟨39, _⟩ => ⟨S16x576x4096, .f32⟩
  | .hbm, ⟨40, _⟩ => ⟨S_, .f32⟩
  | .hbm, ⟨41, _⟩ => ⟨S16x576x4096, .f32⟩
  | .hbm, ⟨42, _⟩ => ⟨S16x576x4096, .f32⟩
  | .hbm, ⟨43, _⟩ => ⟨S_, .f32⟩
  | .hbm, ⟨44, _⟩ => ⟨S16x576x4096, .f32⟩
  | .hbm, ⟨45, _⟩ => ⟨S16x576x4096, .f32⟩
  | .hbm, ⟨46, _⟩ => ⟨S16x576x4096, .f32⟩
  | .hbm, ⟨47, _⟩ => ⟨S16x576x4096, .f32⟩
  | .hbm, ⟨48, _⟩ => ⟨S16x576x4096, .bf16⟩
  | _, _ => ⟨S16x580x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== OProj.lean ====
abbrev S16x576x4096 : Shape := ⟨3, ![16, 576, 4096]⟩
abbrev S4096x4096 : Shape := ⟨2, ![4096, 4096]⟩
abbrev S128x8x4096 : Shape := ⟨3, ![128, 8, 4096]⟩
abbrev S4x2048x4096 : Shape := ⟨3, ![4, 2048, 4096]⟩
abbrev S1x4096 : Shape := ⟨2, ![1, 4096]⟩
abbrev S64x65536 : Shape := ⟨2, ![64, 65536]⟩
abbrev S512x65536 : Shape := ⟨2, ![512, 65536]⟩
abbrev S1x576x512 : Shape := ⟨3, ![1, 576, 512]⟩
abbrev S512x4096 : Shape := ⟨2, ![512, 4096]⟩
abbrev S64x4096 : Shape := ⟨2, ![64, 4096]⟩
abbrev S1x576x4096 : Shape := ⟨3, ![1, 576, 4096]⟩
abbrev S576x4096 : Shape := ⟨2, ![576, 4096]⟩
abbrev S576x512 : Shape := ⟨2, ![576, 512]⟩
abbrev S512x512 : Shape := ⟨2, ![512, 512]⟩
abbrev S1x64x4096 : Shape := ⟨3, ![1, 64, 4096]⟩
abbrev S64 : Shape := ⟨1, ![64]⟩
abbrev S64x1 : Shape := ⟨2, ![64, 1]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩

abbrev nBuf : Space → Nat
  | .hbm => 10
  | .vmem => 13
  | .smem => 0
  | _ => 0

abbrev bufTy : (tb : Table) → Fin (tcTables nBuf tb) → BufTy
  | .hbm, ⟨0, _⟩ => ⟨S16x576x4096, .bf16⟩
  | .hbm, ⟨1, _⟩ => ⟨S4096x4096, .bf16⟩
  | .hbm, ⟨2, _⟩ => ⟨S128x8x4096, .f32⟩
  | .hbm, ⟨3, _⟩ => ⟨S4x2048x4096, .f32⟩
  | .hbm, ⟨4, _⟩ => ⟨S1x4096, .f32⟩
  | .hbm, ⟨5, _⟩ => ⟨S1x4096, .f32⟩
  | .hbm, ⟨6, _⟩ => ⟨S64x65536, .f32⟩
  | .hbm, ⟨7, _⟩ => ⟨S512x65536, .f32⟩
  | .hbm, ⟨8, _⟩ => ⟨S16x576x4096, .f32⟩
  | .hbm, ⟨9, _⟩ => ⟨S16x576x4096, .bf16⟩
  | .local _ .vmem, ⟨0, _⟩ => ⟨S1x576x512, .bf16⟩
  | .local _ .vmem, ⟨1, _⟩ => ⟨S1x576x512, .bf16⟩
  | .local _ .vmem, ⟨2, _⟩ => ⟨S512x4096, .bf16⟩
  | .local _ .vmem, ⟨3, _⟩ => ⟨S512x4096, .bf16⟩
  | .local _ .vmem, ⟨4, _⟩ => ⟨S64x4096, .f32⟩
  | .local _ .vmem, ⟨5, _⟩ => ⟨S64x4096, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S1x576x4096, .f32⟩
  | .local _ .vmem, ⟨10, _⟩ => ⟨S1x576x4096, .f32⟩
  | .local _ .vmem, ⟨11, _⟩ => ⟨S1x576x4096, .bf16⟩
  | .local _ .vmem, ⟨12, _⟩ => ⟨S1x576x4096, .bf16⟩
  | _, _ => ⟨S16x576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v69 : BitVec 1 := Scalar.cmpi .eq arg1 c7_i32
  let v70 : BitVec 32 := Scalar.extui v69
  let c0_i32_67 : BitVec 32 := 0#32
  let v71 : BitVec 1 := Scalar.cmpi .ne v70 c0_i32_67
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x576x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x576x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OProjRefIdeal.lean ====
abbrev S16x576x4096 : Shape := ⟨3, ![16, 576, 4096]⟩
abbrev S4096x4096 : Shape := ⟨2, ![4096, 4096]⟩
abbrev S128x8x4096 : Shape := ⟨3, ![128, 8, 4096]⟩
abbrev S4x2048x4096 : Shape := ⟨3, ![4, 2048, 4096]⟩
abbrev S1x4096 : Shape := ⟨2, ![1, 4096]⟩
abbrev S64x16x4096 : Shape := ⟨3, ![64, 16, 4096]⟩
abbrev S512x16x4096 : Shape := ⟨3, ![512, 16, 4096]⟩
abbrev S576x16x4096 : Shape := ⟨3, ![576, 16, 4096]⟩
abbrev S4096 : Shape := ⟨1, ![4096]⟩
abbrev S_ : Shape := ⟨0, ![]⟩
abbrev S16x576 : Shape := ⟨2, ![16, 576]⟩
abbrev S16x576x1 : Shape := ⟨3, ![16, 576, 1]⟩
abbrev S1x1x4096 : Shape := ⟨3, ![1, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S16x576x4096, .bf16⟩
  | .hbm, ⟨1, _⟩ => ⟨S4096x4096, .bf16⟩
  | .hbm, ⟨2, _⟩ => ⟨S128x8x4096, .f32⟩
  | .hbm, ⟨3, _⟩ => ⟨S4x2048x4096, .f32⟩
  | .hbm, ⟨4, _⟩ => ⟨S1x4096, .f32⟩
  | .hbm, ⟨5, _⟩ => ⟨S1x4096, .f32⟩
  | .hbm, ⟨6, _⟩ => ⟨S64x16x4096, .f32⟩
  | .hbm, ⟨7, _⟩ => ⟨S512x16x4096, .f32⟩
  | .hbm, ⟨8, _⟩ => ⟨S576x16x4096, .f32⟩
  | .hbm, ⟨9, _⟩ => ⟨S16x576x4096, .f32⟩
  | .hbm, ⟨10, _⟩ => ⟨S16x576x4096, .f32⟩
  | .hbm, ⟨11, _⟩ => ⟨S4096x4096, .f32⟩
  | .hbm, ⟨12, _⟩ => ⟨S16x576x4096, .f32⟩
  | .hbm, ⟨13, _⟩ => ⟨S4096, .f32⟩
  | .hbm, ⟨14, _⟩ => ⟨S16x576x4096, .f32⟩
  | .hbm, ⟨15, _⟩ => ⟨S_, .f32⟩
  | .hbm, ⟨16, _⟩ => ⟨S16x576, .f32⟩
  | .hbm, ⟨17, _⟩ => ⟨S16x576x1, .f32⟩
  | .hbm, ⟨18, _⟩ => ⟨S_, .f32⟩
  | .hbm, ⟨19, _⟩ => ⟨S16x576x1, .f32⟩
  | .hbm, ⟨20, _⟩ => ⟨S16x576x1, .f32⟩
  | .hbm, ⟨21, _⟩ => ⟨S_, .f32⟩
  | .hbm, ⟨22, _⟩ => ⟨S16x576x1, .f32⟩
  | .hbm, ⟨23, _⟩ => ⟨S16x576x1, .f32⟩
  | .hbm, ⟨24, _⟩ => ⟨S16x576x1, .f32⟩
  | .hbm, ⟨25, _⟩ => ⟨S16x576x4096, .f32⟩
  | .hbm, ⟨26, _⟩ => ⟨S16x576x4096, .f32⟩
  | .hbm, ⟨27, _⟩ => ⟨S1x1x4096, .f32⟩
  | .hbm, ⟨28, _⟩ => ⟨S16x576x4096, .f32⟩
  | .hbm, ⟨29, _⟩ => ⟨S16x576x4096, .f32⟩
  | .hbm, ⟨30, _⟩ => ⟨S16x576x4096, .f32⟩
  | .hbm, ⟨31, _⟩ => ⟨S4096, .f32⟩
  | .hbm, ⟨32, _⟩ => ⟨S16x576x4096, .f32⟩
  | .hbm, ⟨33, _⟩ => ⟨S_, .f32⟩
  | .hbm, ⟨34, _⟩ => ⟨S16x576, .f32⟩
  | .hbm, ⟨35, _⟩ => ⟨S16x576x1, .f32⟩
  | .hbm, ⟨36, _⟩ => ⟨S_, .f32⟩
  | .hbm, ⟨37, _⟩ => ⟨S16x576x1, .f32⟩
  | .hbm, ⟨38, _⟩ => ⟨S16x576x1, .f32⟩
  | .hbm, ⟨39, _⟩ => ⟨S_, .f32⟩
  | .hbm, ⟨40, _⟩ => ⟨S16x576x1, .f32⟩
  | .hbm, ⟨41, _⟩ => ⟨S16x576x1, .f32⟩
  | .hbm, ⟨42, _⟩ => ⟨S16x576x1, .f32⟩
  | .hbm, ⟨43, _⟩ => ⟨S16x576x4096, .f32⟩
  | .hbm, ⟨44, _⟩ => ⟨S16x576x4096, .f32⟩
  | .hbm, ⟨45, _⟩ => ⟨S1x1x4096, .f32⟩
  | .hbm, ⟨46, _⟩ => ⟨S16x576x4096, .f32⟩
  | .hbm, ⟨47, _⟩ => ⟨S16x576x4096, .f32⟩
  | .hbm, ⟨48, _⟩ => ⟨S16x576x4096, .bf16⟩
  | _, _ => ⟨S16x576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== PreNorm.lean ====
abbrev S4x2048x4096 : Shape := ⟨3, ![4, 2048, 4096]⟩
abbrev S128x8x4096 : Shape := ⟨3, ![128, 8, 4096]⟩
abbrev S16x4096 : Shape := ⟨2, ![16, 4096]⟩
abbrev S1x4096 : Shape := ⟨2, ![1, 4096]⟩
abbrev S64x65536 : Shape := ⟨2, ![64, 65536]⟩
abbrev S512x65536 : Shape := ⟨2, ![512, 65536]⟩
abbrev S16x580x4096 : Shape := ⟨3, ![16, 580, 4096]⟩
abbrev S64x4096 : Shape := ⟨2, ![64, 4096]⟩
abbrev S512x4096 : Shape := ⟨2, ![512, 4096]⟩
abbrev S1x580x4096 : Shape := ⟨3, ![1, 580, 4096]⟩
abbrev S64 : Shape := ⟨1, ![64]⟩
abbrev S64x1 : Shape := ⟨2, ![64, 1]⟩
abbrev S1x64x4096 : Shape := ⟨3, ![1, 64, 4096]⟩
abbrev S128x4096 : Shape := ⟨2, ![128, 4096]⟩
abbrev S128 : Shape := ⟨1, ![128]⟩
abbrev S128x1 : Shape := ⟨2, ![128, 1]⟩
abbrev S1x128x4096 : Shape := ⟨3, ![1, 128, 4096]⟩
abbrev S1 : Shape := ⟨1, ![1]⟩
abbrev S1x1 : Shape := ⟨2, ![1, 1]⟩
abbrev S4x4096 : Shape := ⟨2, ![4, 4096]⟩
abbrev S1x4x4096 : Shape := ⟨3, ![1, 4, 4096]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S16x4096, .f32⟩
  | .hbm, ⟨3, _⟩ => ⟨S1x4096, .f32⟩
  | .hbm, ⟨4, _⟩ => ⟨S64x65536, .f32⟩
  | .hbm, ⟨5, _⟩ => ⟨S512x65536, .f32⟩
  | .hbm, ⟨6, _⟩ => ⟨S16x580x4096, .bf16⟩
  | .local _ .vmem, ⟨0, _⟩ => ⟨S64x4096, .f32⟩
  | .local _ .vmem, ⟨1, _⟩ => ⟨S64x4096, .f32⟩
  | .local _ .vmem, ⟨2, _⟩ => ⟨S512x4096, .f32⟩
  | .local _ .vmem, ⟨3, _⟩ => ⟨S512x4096, .f32⟩
  | .local _ .vmem, ⟨4, _⟩ => ⟨S16x4096, .f32⟩
  | .local _ .vmem, ⟨5, _⟩ => ⟨S1x4096, .f32⟩
  | .local _ .vmem, ⟨6, _⟩ => ⟨S1x580x4096, .bf16⟩
  | .local _ .vmem, ⟨7, _⟩ => ⟨S1x580x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v91 : Index := Scalar.indexCast arg0
  let c0_33 : Index := 0#32
  ![v91.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x580x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreNormRefIdeal.lean ====
abbrev S4x2048x4096 : Shape := ⟨3, ![4, 2048, 4096]⟩
abbrev S128x8x4096 : Shape := ⟨3, ![128, 8, 4096]⟩
abbrev S16x4096 : Shape := ⟨2, ![16, 4096]⟩
abbrev S1x4096 : Shape := ⟨2, ![1, 4096]⟩
abbrev S1x16x4096 : Shape := ⟨3, ![1, 16, 4096]⟩
abbrev S4x16x4096 : Shape := ⟨3, ![4, 16, 4096]⟩
abbrev S64x16x4096 : Shape := ⟨3, ![64, 16, 4096]⟩
abbrev S512x16x4096 : Shape := ⟨3, ![512, 16, 4096]⟩
abbrev S580x16x4096 : Shape := ⟨3, ![580, 16, 4096]⟩
abbrev S4096 : Shape := ⟨1, ![4096]⟩
abbrev S_ : Shape := ⟨0, ![]⟩
abbrev S580x16 : Shape := ⟨2, ![580, 16]⟩
abbrev S580x16x1 : Shape := ⟨3, ![580, 16, 1]⟩
abbrev S1x1x4096 : Shape := ⟨3, ![1, 1, 4096]⟩
abbrev S16x580x4096 : Shape := ⟨3, ![16, 580, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S16x4096, .f32⟩
  | .hbm, ⟨3, _⟩ => ⟨S1x4096, .f32⟩
  | .hbm, ⟨4, _⟩ => ⟨S1x16x4096, .f32⟩
  | .hbm, ⟨5, _⟩ => ⟨S4x16x4096, .f32⟩
  | .hbm, ⟨6, _⟩ => ⟨S64x16x4096, .f32⟩
  | .hbm, ⟨7, _⟩ => ⟨S512x16x4096, .f32⟩
  | .hbm, ⟨8, _⟩ => ⟨S580x16x4096, .f32⟩
  | .hbm, ⟨9, _⟩ => ⟨S4096, .f32⟩
  | .hbm, ⟨10, _⟩ => ⟨S580x16x4096, .f32⟩
  | .hbm, ⟨11, _⟩ => ⟨S_, .f32⟩
  | .hbm, ⟨12, _⟩ => ⟨S580x16, .f32⟩
  | .hbm, ⟨13, _⟩ => ⟨S580x16x1, .f32⟩
  | .hbm, ⟨14, _⟩ => ⟨S_, .f32⟩
  | .hbm, ⟨15, _⟩ => ⟨S580x16x1, .f32⟩
  | .hbm, ⟨16, _⟩ => ⟨S580x16x1, .f32⟩
  | .hbm, ⟨17, _⟩ => ⟨S_, .f32⟩
  | .hbm, ⟨18, _⟩ => ⟨S580x16x1, .f32⟩
  | .hbm, ⟨19, _⟩ => ⟨S580x16x1, .f32⟩
  | .hbm, ⟨20, _⟩ => ⟨S580x16x1, .f32⟩
  | .hbm, ⟨21, _⟩ => ⟨S580x16x4096, .f32⟩
  | .hbm, ⟨22, _⟩ => ⟨S580x16x4096, .f32⟩
  | .hbm, ⟨23, _⟩ => ⟨S1x1x4096, .f32⟩
  | .hbm, ⟨24, _⟩ => ⟨S580x16x4096, .f32⟩
  | .hbm, ⟨25, _⟩ => ⟨S580x16x4096, .f32⟩
  | .hbm, ⟨26, _⟩ => ⟨S16x580x4096, .f32⟩
  | .hbm, ⟨27, _⟩ => ⟨S16x580x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== S5.lean ====
abbrev S16x580x16384 : Shape := ⟨3, ![16, 580, 16384]⟩
abbrev S1x128x64 : Shape := ⟨3, ![1, 128, 64]⟩
abbrev S1x128 : Shape := ⟨2, ![1, 128]⟩
abbrev S1x128x64x16 : Shape := ⟨4, ![1, 128, 64, 16]⟩
abbrev S1x128x16x64 : Shape := ⟨4, ![1, 128, 16, 64]⟩
abbrev S1x2048 : Shape := ⟨2, ![1, 2048]⟩
abbrev S1x128x128x64 : Shape := ⟨4, ![1, 128, 128, 64]⟩
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S128x1 : Shape := ⟨2, ![128, 1]⟩
abbrev S128x1x1x64 : Shape := ⟨4, ![128, 1, 1, 64]⟩
abbrev S128x16x2x64 : Shape := ⟨4, ![128, 16, 2, 64]⟩
abbrev S16x128x128 : Shape := ⟨3, ![16, 128, 128]⟩
abbrev S128x16x1x64 : Shape := ⟨4, ![128, 16, 1, 64]⟩
abbrev S16x1x128x128 : Shape := ⟨4, ![16, 1, 128, 128]⟩
abbrev S16x5x128x128 : Shape := ⟨4, ![16, 5, 128, 128]⟩
abbrev S16x8x64 : Shape := ⟨3, ![16, 8, 64]⟩
abbrev S16x64x8 : Shape := ⟨3, ![16, 64, 8]⟩
abbrev S16x1x64x8x1 : Shape := ⟨5, ![16, 1, 64, 8, 1]⟩
abbrev S16x2x64x8x16 : Shape := ⟨5, ![16, 2, 64, 8, 16]⟩
abbrev S16x8x16x64 : Shape := ⟨4, ![16, 8, 16, 64]⟩
abbrev S16x64x8x16 : Shape := ⟨4, ![16, 64, 8, 16]⟩
abbrev S16x1x64x8x16 : Shape := ⟨5, ![16, 1, 64, 8, 16]⟩
abbrev S64x16384 : Shape := ⟨2, ![64, 16384]⟩
abbrev S16x1x128 : Shape := ⟨3, ![16, 1, 128]⟩
abbrev S16x580x2048 : Shape := ⟨3, ![16, 580, 2048]⟩
abbrev S2x64x8192 : Shape := ⟨3, ![2, 64, 8192]⟩
abbrev S4x8192 : Shape := ⟨2, ![4, 8192]⟩
abbrev S16x580x128 : Shape := ⟨3, ![16, 580, 128]⟩
abbrev S1x5x128x128 : Shape := ⟨4, ![1, 5, 128, 128]⟩
abbrev S1x1x128 : Shape := ⟨3, ![1, 1, 128]⟩
abbrev S64x512 : Shape := ⟨2, ![64, 512]⟩
abbrev S2x64x512 : Shape := ⟨3, ![2, 64, 512]⟩
abbrev S4x512 : Shape := ⟨2, ![4, 512]⟩
abbrev S2048x1024 : Shape := ⟨2, ![2048, 1024]⟩
abbrev S1024x2176 : Shape := ⟨2, ![1024, 2176]⟩
abbrev S2048x2048 : Shape := ⟨2, ![2048, 2048]⟩
abbrev S516x1024 : Shape := ⟨2, ![516, 1024]⟩
abbrev S128x128 : Shape := ⟨2, ![128, 128]⟩
abbrev S1x1x128x128 : Shape := ⟨4, ![1, 1, 128, 128]⟩
abbrev S128x1024 : Shape := ⟨2, ![128, 1024]⟩
abbrev S1024x2048 : Shape := ⟨2, ![1024, 2048]⟩
abbrev S128x2048 : Shape := ⟨2, ![128, 2048]⟩
abbrev S1x580x128 : Shape := ⟨3, ![1, 580, 128]⟩
abbrev S580x128 : Shape := ⟨2, ![580, 128]⟩
abbrev S580x2048 : Shape := ⟨2, ![580, 2048]⟩
abbrev S516x2048 : Shape := ⟨2, ![516, 2048]⟩
abbrev S1x512 : Shape := ⟨2, ![1, 512]⟩
abbrev S4x1024 : Shape := ⟨2, ![4, 1024]⟩
abbrev S516x256 : Shape := ⟨2, ![516, 256]⟩
abbrev S256x256 : Shape := ⟨2, ![256, 256]⟩
abbrev S1024x256 : Shape := ⟨2, ![1024, 256]⟩
abbrev S516x128 : Shape := ⟨2, ![516, 128]⟩
abbrev S1x516x128 : Shape := ⟨3, ![1, 516, 128]⟩
abbrev S516x512 : Shape := ⟨2, ![516, 512]⟩
abbrev S512x256 : Shape := ⟨2, ![512, 256]⟩
abbrev S516x768 : Shape := ⟨2, ![516, 768]⟩
abbrev S768x256 : Shape := ⟨2, ![768, 256]⟩
abbrev S516x1280 : Shape := ⟨2, ![516, 1280]⟩
abbrev S1280x256 : Shape := ⟨2, ![1280, 256]⟩
abbrev S516x1536 : Shape := ⟨2, ![516, 1536]⟩
abbrev S1536x256 : Shape := ⟨2, ![1536, 256]⟩
abbrev S516x1792 : Shape := ⟨2, ![516, 1792]⟩
abbrev S1792x256 : Shape := ⟨2, ![1792, 256]⟩
abbrev S2048x256 : Shape := ⟨2, ![2048, 256]⟩
abbrev S64x2048 : Shape := ⟨2, ![64, 2048]⟩
abbrev S64x1024 : Shape := ⟨2, ![64, 1024]⟩
abbrev S128x512 : Shape := ⟨2, ![128, 512]⟩
abbrev S1024x1024 : Shape := ⟨2, ![1024, 1024]⟩
abbrev S1x64x512 : Shape := ⟨3, ![1, 64, 512]⟩
abbrev S128x256 : Shape := ⟨2, ![128, 256]⟩
abbrev S64x128 : Shape := ⟨2, ![64, 128]⟩
abbrev S1x64x128 : Shape := ⟨3, ![1, 64, 128]⟩
abbrev S128x768 : Shape := ⟨2, ![128, 768]⟩
abbrev S1x4x128x64 : Shape := ⟨4, ![1, 4, 128, 64]⟩
abbrev S64x2x8192 : Shape := ⟨3, ![64, 2, 8192]⟩

abbrev nBuf : Space → Nat
  | .hbm => 88
  | .vmem => 31
  | .smem => 0
  | _ => 0

abbrev bufTy : (tb : Table) → Fin (tcTables nBuf tb) → BufTy
  | .hbm, ⟨0, _⟩ => ⟨S16x580x16384, .bf16⟩
  | .hbm, ⟨1, _⟩ => ⟨S1x128x64, .f32⟩
  | .hbm, ⟨2, _⟩ => ⟨S1x128x64, .f32⟩
  | .hbm, ⟨3, _⟩ => ⟨S1x128, .f32⟩
  | .hbm, ⟨4, _⟩ => ⟨S1x128x64x16, .f32⟩
  | .hbm, ⟨5, _⟩ => ⟨S1x128x64x16, .f32⟩
  | .hbm, ⟨6, _⟩ => ⟨S1x128x16x64, .f32⟩
  | .hbm, ⟨7, _⟩ => ⟨S1x128x16x64, .f32⟩
  | .hbm, ⟨8, _⟩ => ⟨S1x2048, .f32⟩
  | .hbm, ⟨9, _⟩ => ⟨S1x128x128x64, .f32⟩
  | .hbm, ⟨10, _⟩ => ⟨S1x128x128x64, .f32⟩
  | .hbm, ⟨11, _⟩ => ⟨S128x64, .f32⟩
  | .hbm, ⟨12, _⟩ => ⟨S128x64, .f32⟩
  | .hbm, ⟨13, _⟩ => ⟨S128, .f32⟩
  | .hbm, ⟨14, _⟩ => ⟨S128x64x16, .f32⟩
  | .hbm, ⟨15, _⟩ => ⟨S128x64x16, .f32⟩
  | .hbm, ⟨16, _⟩ => ⟨S128x16x64, .f32⟩
  | .hbm, ⟨17, _⟩ => ⟨S128x16x64, .f32⟩
  | .hbm, ⟨18, _⟩ => ⟨S128x1, .f32⟩
  | .hbm, ⟨19, _⟩ => ⟨S128x64, .f32⟩
  | .hbm, ⟨20, _⟩ => ⟨S128x1x1x64, .f32⟩
  | .hbm, ⟨21, _⟩ => ⟨S128x16x2x64, .f32⟩
  | .hbm, ⟨22, _⟩ => ⟨S16x128x128, .f32⟩
  | .hbm, ⟨23, _⟩ => ⟨S128x1x1x64, .f32⟩
  | .hbm, ⟨24, _⟩ => ⟨S128x16x2x64, .f32⟩
  | .hbm, ⟨25, _⟩ => ⟨S16x128x128, .f32⟩
  | .hbm, ⟨26, _⟩ => ⟨S128x1x1x64, .f32⟩
  | .hbm, ⟨27, _⟩ => ⟨S128x16x2x64, .f32⟩
  | .hbm, ⟨28, _⟩ => ⟨S16x128x128, .f32⟩
  | .hbm, ⟨29, _⟩ => ⟨S128x16x64, .f32⟩
  | .hbm, ⟨30, _⟩ => ⟨S128x16x1x64, .f32⟩
  | .hbm, ⟨31, _⟩ => ⟨S128x16x2x64, .f32⟩
  | .hbm, ⟨32, _⟩ => ⟨S16x128x128, .f32⟩
  | .hbm, ⟨33, _⟩ => ⟨S128x16x64, .f32⟩
  | .hbm, ⟨34, _⟩ => ⟨S128x16x1x64, .f32⟩
  | .hbm, ⟨35, _⟩ => ⟨S128x16x2x64, .f32⟩
  | .hbm, ⟨36, _⟩ => ⟨S16x128x128, .f32⟩
  | .hbm, ⟨37, _⟩ => ⟨S16x1x128x128, .f32⟩
  | .hbm, ⟨38, _⟩ => ⟨S16x1x128x128, .f32⟩
  | .hbm, ⟨39, _⟩ => ⟨S16x1x128x128, .f32⟩
  | .hbm, ⟨40, _⟩ => ⟨S16x1x128x128, .f32⟩
  | .hbm, ⟨41, _⟩ => ⟨S16x1x128x128, .f32⟩
  | .hbm, ⟨42, _⟩ => ⟨S16x5x128x128, .f32⟩
  | .hbm, ⟨43, _⟩ => ⟨S16x8x64, .f32⟩
  | .hbm, ⟨44, _⟩ => ⟨S16x64x8, .f32⟩
  | .hbm, ⟨45, _⟩ => ⟨S16x1x64x8x1, .f32⟩
  | .hbm, ⟨46, _⟩ => ⟨S16x2x64x8x16, .f32⟩
  | .hbm, ⟨47, _⟩ => ⟨S16x128x128, .f32⟩
  | .hbm, ⟨48, _⟩ => ⟨S16x8x64, .f32⟩
  | .hbm, ⟨49, _⟩ => ⟨S16x64x8, .f32⟩
  | .hbm, ⟨50, _⟩ => ⟨S16x1x64x8x1, .f32⟩
  | .hbm, ⟨51, _⟩ => ⟨S16x2x64x8x16, .f32⟩
  | .hbm, ⟨52, _⟩ => ⟨S16x128x128, .f32⟩
  | .hbm, ⟨53, _⟩ => ⟨S16x8x64, .f32⟩
  | .hbm, ⟨54, _⟩ => ⟨S16x64x8, .f32⟩
  | .hbm, ⟨55, _⟩ => ⟨S16x1x64x8x1, .f32⟩
  | .hbm, ⟨56, _⟩ => ⟨S16x2x64x8x16, .f32⟩
  | .hbm, ⟨57, _⟩ => ⟨S16x128x128, .f32⟩
  | .hbm, ⟨58, _⟩ => ⟨S16x8x16x64, .f32⟩
  | .hbm, ⟨59, _⟩ => ⟨S16x64x8x16, .f32⟩
  | .hbm, ⟨60, _⟩ => ⟨S16x1x64x8x16, .f32⟩
  | .hbm, ⟨61, _⟩ => ⟨S16x2x64x8x16, .f32⟩
  | .hbm, ⟨62, _⟩ => ⟨S16x128x128, .f32⟩
  | .hbm, ⟨63, _⟩ => ⟨S16x8x16x64, .f32⟩
  | .hbm, ⟨64, _⟩ => ⟨S16x64x8x16, .f32⟩
  | .hbm, ⟨65, _⟩ => ⟨S16x1x64x8x16, .f32⟩
  | .hbm, ⟨66, _⟩ => ⟨S16x2x64x8x16, .f32⟩
  | .hbm, ⟨67, _⟩ => ⟨S16x128x128, .f32⟩
  | .hbm, ⟨68, _⟩ => ⟨S16x1x128x128, .f32⟩
  | .hbm, ⟨69, _⟩ => ⟨S16x1x128x128, .f32⟩
  | .hbm, ⟨70, _⟩ => ⟨S16x1x128x128, .f32⟩
  | .hbm, ⟨71, _⟩ => ⟨S16x1x128x128, .f32⟩
  | .hbm, ⟨72, _⟩ => ⟨S16x1x128x128, .f32⟩
  | .hbm, ⟨73, _⟩ => ⟨S16x5x128x128, .f32⟩
  | .hbm, ⟨74, _⟩ => ⟨S64x16384, .f32⟩
  | .hbm, ⟨75, _⟩ => ⟨S64x16384, .f32⟩
  | .hbm, ⟨76, _⟩ => ⟨S16x1x128, .f32⟩
  | .hbm, ⟨77, _⟩ => ⟨S16x580x2048, .bf16⟩
  | .hbm, ⟨78, _⟩ => ⟨S2x64x8192, .f32⟩
  | .hbm, ⟨79, _⟩ => ⟨S2x64x8192, .f32⟩
  | .hbm, ⟨80, _⟩ => ⟨S4x8192, .f32⟩
  | .hbm, ⟨81, _⟩ => ⟨S4x8192, .f32⟩
  | .hbm, ⟨82, _⟩ => ⟨S1x4x128x64, .f32⟩
  | .hbm, ⟨83, _⟩ => ⟨S1x4x128x64, .f32⟩
  | .hbm, ⟨84, _⟩ => ⟨S64x2x8192, .f32⟩
  | .hbm, ⟨85, _⟩ => ⟨S1x128x128x64, .f32⟩
  | .hbm, ⟨86, _⟩ => ⟨S64x2x8192, .f32⟩
  | .hbm, ⟨87, _⟩ => ⟨S1x128x128x64, .f32⟩
  | .local _ .vmem, ⟨0, _⟩ => ⟨S16x580x128, .bf16⟩
  | .local _ .vmem, ⟨1, _⟩ => ⟨S16x580x128, .bf16⟩
  | .local _ .vmem, ⟨2, _⟩ => ⟨S1x5x128x128, .f32⟩
  | .local _ .vmem, ⟨3, _⟩ => ⟨S1x5x128x128, .f32⟩
  | .local _ .vmem, ⟨4, _⟩ => ⟨S1x5x128x128, .f32⟩
  | .local _ .vmem, ⟨5, _⟩ => ⟨S1x5x128x128, .f32⟩
  | .local _ .vmem, ⟨6, _⟩ => ⟨S1x1x128, .f32⟩
  | .local _ .vmem, ⟨7, _⟩ => ⟨S1x1x128, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S16x580x128, .bf16⟩
  | .local _ .vmem, ⟨17, _⟩ => ⟨S16x580x128, .bf16⟩
  | .local _ .vmem, ⟨18, _⟩ => ⟨S2x64x512, .f32⟩
  | .local _ .vmem, ⟨19, _⟩ => ⟨S2x64x512, .f32⟩
  | .local _ .vmem, ⟨20, _⟩ => ⟨S2x64x512, .f32⟩
  | .local _ .vmem, ⟨21, _⟩ => ⟨S2x64x512, .f32⟩
  | .local _ .vmem, ⟨22, _⟩ => ⟨S4x512, .f32⟩
  | .local _ .vmem, ⟨23, _⟩ => ⟨S4x512, .f32⟩
  | .local _ .vmem, ⟨24, _⟩ => ⟨S4x512, .f32⟩
  | .local _ .vmem, ⟨25, _⟩ => ⟨S4x512, .f32⟩
  | .local _ .vmem, ⟨26, _⟩ => ⟨S2048x1024, .bf16⟩
  | .local _ .vmem, ⟨27, _⟩ => ⟨S1024x2176, .bf16⟩
  | .local _ .vmem, ⟨28, _⟩ => ⟨S2048x2048, .bf16⟩
  | .local _ .vmem, ⟨29, _⟩ => ⟨S516x1024, .f32⟩
  | .local _ .vmem, ⟨30, _⟩ => ⟨S516x1024, .f32⟩
  | _, _ => ⟨S16x580x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66_0 : Ref sig .tc := ⟨.hbm, 77, rfl⟩
abbrev main_v66_1 : Ref sig .tc := ⟨.hbm, 78, rfl⟩
abbrev main_v66_2 : Ref sig .tc := ⟨.hbm, 79, rfl⟩
abbrev main_v66_3 : Ref sig .tc := ⟨.hbm, 80, rfl⟩
abbrev main_v66_4 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x580x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x580x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Proof.FfnStep.lean ====
/-
  What one point of the feed-forward call leaves in its two result blocks, from the blocks it reads.
-/
module

public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.FfnIdeal.Hand

open Cert.FfnIdeal Cert.FfnIdeal.Gen

/-- One element of the hidden block: `silu(x·w_gate) * (x·w_up)` at row `r`, lane `k` of the block. -/
def hid (x0 : Vec Ideal S1x576x4096 .bf16) (x1 x2 : Vec Ideal S4096x256 .bf16) (r : Fin 576) (k : Fin 256) : EReal :=
  (∑ l : Fin 4096, x0 (ix3 0 r l) * x1 (ix2 l k)) * Ideal.logistic (∑ l : Fin 4096, x0 (ix3 0 r l) * x1 (ix2 l k))
    * (∑ l : Fin 4096, x0 (ix3 0 r l) * x2 (ix2 l k))

/-- Stores that cover a buffer hide the older ones beneath them. -/
theorem canon_append_of_cover {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_append_of_cover L' L y ⟨q, hq, hy⟩

/-- Some point that is neither the first nor the last of its run. -/
theorem mid_exists : ∃ i : grid0.Coords, ¬cond0_0 i ∧ ¬cond0_1 i :=
  ⟨grid0.coords ⟨1, by decide +kernel⟩, by rw [hcond0_0]; decide, by rw [hcond0_1]; decide⟩

/-- The squared mean of a row, under the reciprocal root. -/
def inv (a : Fin 4096 → EReal) : EReal :=
  Ideal.rsqrt (Ideal.div (∑ q : Fin 4096, a q * a q) (Ideal.ofBits .f32 0x45800000#32) + (Ideal.ofBits .f32 0x358637BD#32))

variable (c : Dev nD) (i : grid0.Coords) (a2 : Memref sig .tc .vmem S1x576x4096 .bf16) (h2 : a2.IsWhole)
    (a3 : Memref sig .tc .vmem S4096x256 .bf16) (h3 : a3.IsWhole) (a4 : Memref sig .tc .vmem S4096x256 .bf16) (h4 : a4.IsWhole)
    (a5 : Memref sig .tc .vmem S256x4096 .bf16) (h5 : a5.IsWhole) (a6 : Memref sig .tc .vmem S1x4096 .f32) (h6 : a6.IsWhole)
    (a7 : Memref sig .tc .vmem S1x576x4096 .f32) (h7 : a7.IsWhole) (a8 : Memref sig .tc .vmem S64x4096 .f32) (h8 : a8.IsWhole)
    (a9 : Memref sig .tc .vmem S512x4096 .f32) (h9 : a9.IsWhole)
    (x0 : Vec Ideal S1x576x4096 .bf16) (x1 x2 : Vec Ideal S4096x256 .bf16) (x3 : Vec Ideal S256x4096 .bf16)
    (x4 : Vec Ideal S1x4096 .f32) (x5 : Vec Ideal S1x576x4096 .f32) (xo6 : Vec Ideal S64x4096 .f32) (xo7 : Vec Ideal S512x4096 .f32)

/-- The block of output 0 after a point that found `acc` there. -/
def acc6 (acc : Vec Ideal S64x4096 .f32) (x0 : Vec Ideal S1x576x4096 .bf16) (x1 x2 : Vec Ideal S4096x256 .bf16)
    (x3 : Vec Ideal S256x4096 .bf16) (r : Fin 64) (q : Fin 4096) : EReal :=
  acc (ix2 r q) + ∑ k : Fin 256, hid x0 x1 x2 ⟨r.val, by omega⟩ k * x3 (ix2 k q)

/-- A later point adds its part onto output 0's block. -/
theorem out_B_6 (hc0 : ¬cond0_0 i) (hc1 : ¬cond0_1 i) (r : Fin 64) (q : Fin 4096) :
    out0_B_6 (F := Ideal) c i a2 h2 a3 h3 a4 h4 a5 h5 a6 h6 a7 h7 a8 h8 a9 h9 hc0 hc1 x0 x1 x2 x3 x4 x5 xo6 xo7 (ix2 r q)
      = acc6 xo6 x0 x1 x2 x3 r q := by
  unfold acc6
  frame_out
  canon_tiles y e
  all_goals
    idx_vars y
    unfold_payloads
    pointwise [hid]
    obtain ⟨r, hr⟩ := r
    obtain ⟨q, hq⟩ := q
    dsimp only at e0 e1
    subst e0 e1
    rfl

/-- At a plane's first point the sample rows hold the first block's product, -/
theorem out_A_6 (hc0 : cond0_0 i) (hc1 : ¬cond0_1 i) (r : Fin 64) (q : Fin 4096) :
    out0_A_6 (F := Ideal) c i a2 h2 a3 h3 a4 h4 a5 h5 a6 h6 a7 h7 a8 h8 a9 h9 hc0 hc1 x0 x1 x2 x3 x4 x5 (ix2 r q)
      = acc6 (fun _ => 0) x0 x1 x2 x3 r q := by
  unfold acc6
  frame_open
  simp (disch := decide) only [↓ View.readCov_skip, ↓ View.readCov_cons_toLoadRect, ↓ View.readCov_fill]
  frame_out
  refine (canon_append_of_cover (Val := Elt Ideal) [_] [_, _, _, _, _, _, _, _] _ (View.cover_of_tiledL _ ![64, 512] (by rfl) _)).trans ?_
  canon_tiles y e
  all_goals
    idx_vars y
    unfold_payloads
    pointwise [hid]
    obtain ⟨r, hr⟩ := r
    obtain ⟨q, hq⟩ := q
    dsimp only at e0 e1
    subst e0 e1
    rfl

/-- At its last point the sample rows hold the normalised sum and the residual. -/
theorem out_C_6 (hc0 : ¬cond0_0 i) (hc1 : cond0_1 i) (r : Fin 64) (q : Fin 4096) :
    out0_C_6 (F := Ideal) c i a2 h2 a3 h3 a4 h4 a5 h5 a6 h6 a7 h7 a8 h8 a9 h9 hc0 hc1 x0 x1 x2 x3 x4 x5 xo6 xo7 (ix2 r q)
      = x5 (ix3 0 ⟨r.val, by omega⟩ q) + acc6 xo6 x0 x1 x2 x3 r q * inv (fun q => acc6 xo6 x0 x1 x2 x3 r q) * x4 (ix2 0 q) := by
  obtain ⟨j, hj0, hj1⟩ := mid_exists
  frame_open
  simp (disch := decide) only [↓ View.readCov_skip, ↓ View.readCov_cons_toLoadRect, ↓ View.readCov_fill]
  frame_out
  generalize hX : View.readCov (Val := Elt Ideal) a8.view _ _ = X
  have hX' : ∀ r q, X (ix2 r q) = acc6 xo6 x0 x1 x2 x3 r q := fun r q => by
    rw [← hX, View.readCov_eq_canon']
    refine Eq.trans ?_ (out_B_6 c j a2 h2 a3 h3 a4 h4 a5 h5 a6 h6 a7 h7 a8 h8 a9 h9 x0 x1 x2 x3 x4 x5 xo6 xo7 hj0 hj1 r q)
    frame_out
    refine congrArg (View.canon _) (funext fun a => Fin.ext ?_)
    match a with
    | ⟨0, _⟩ => show 0 + 1 * r.val = r.val; omega
    | ⟨1, _⟩ => show 0 + 1 * q.val = q.val; omega
  clear hX
  unfold_payloads
  pointwise [inv, hX']

/-- The block of output 1 after a point that found `acc` there. -/
def acc7 (acc : Vec Ideal S512x4096 .f32) (x0 : Vec Ideal S1x576x4096 .bf16) (x1 x2 : Vec Ideal S4096x256 .bf16)
    (x3 : Vec Ideal S256x4096 .bf16) (r : Fin 512) (q : Fin 4096) : EReal :=
  acc (ix2 r q) + ∑ k : Fin 256, hid x0 x1 x2 ⟨64 + r.val, by omega⟩ k * x3 (ix2 k q)

/-- A later point adds its part onto output 1's block. -/
theorem out_B_7 (hc0 : ¬cond0_0 i) (hc1 : ¬cond0_1 i) (r : Fin 512) (q : Fin 4096) :
    out0_B_7 (F := Ideal) c i a2 h2 a3 h3 a4 h4 a5 h5 a6 h6 a7 h7 a8 h8 a9 h9 hc0 hc1 x0 x1 x2 x3 x4 x5 xo6 xo7 (ix2 r q)
      = acc7 xo7 x0 x1 x2 x3 r q := by
  unfold acc7
  frame_out
  canon_tiles y e
  all_goals
    idx_vars y
    unfold_payloads
    pointwise [hid]
    obtain ⟨r, hr⟩ := r
    obtain ⟨q, hq⟩ := q
    dsimp only at e0 e1
    subst e0 e1
    rfl

/-- The same of the prompt rows at the first point. -/
theorem out_A_7 (hc0 : cond0_0 i) (hc1 : ¬cond0_1 i) (r : Fin 512) (q : Fin 4096) :
    out0_A_7 (F := Ideal) c i a2 h2 a3 h3 a4 h4 a5 h5 a6 h6 a7 h7 a8 h8 a9 h9 hc0 hc1 x0 x1 x2 x3 x4 x5 (ix2 r q)
      = acc7 (fun _ => 0) x0 x1 x2 x3 r q := by
  unfold acc7
  frame_open
  simp (disch := decide) only [↓ View.readCov_skip, ↓ View.readCov_cons_toLoadRect, ↓ View.readCov_fill]
  frame_out
  refine (canon_append_of_cover (Val := Elt Ideal) [_] [_, _, _, _, _, _, _, _] _ (View.cover_of_tiledL _ ![512, 512] (by rfl) _)).trans ?_
  canon_tiles y e
  all_goals
    idx_vars y
    unfold_payloads
    pointwise [hid]
    obtain ⟨r, hr⟩ := r
    obtain ⟨q, hq⟩ := q
    dsimp only at e0 e1
    subst e0 e1
    rfl

/-- The same of the prompt rows at the last point. -/
theorem out_C_7 (hc0 : ¬cond0_0 i) (hc1 : cond0_1 i) (r : Fin 512) (q : Fin 4096) :
    out0_C_7 (F := Ideal) c i a2 h2 a3 h3 a4 h4 a5 h5 a6 h6 a7 h7 a8 h8 a9 h9 hc0 hc1 x0 x1 x2 x3 x4 x5 xo6 xo7 (ix2 r q)
      = x5 (ix3 0 ⟨64 + r.val, by omega⟩ q) + acc7 xo7 x0 x1 x2 x3 r q * inv (fun q => acc7 xo7 x0 x1 x2 x3 r q) * x4 (ix2 0 q) := by
  obtain ⟨j, hj0, hj1⟩ := mid_exists
  frame_open
  simp (disch := decide) only [↓ View.readCov_skip, ↓ View.readCov_cons_toLoadRect, ↓ View.readCov_fill]
  frame_out
  refine (canon_append_of_cover (Val := Elt Ideal) [_, _, _, _, _, _, _, _] [_, _, _, _] _ (View.cover_of_tiledL _ ![128, 4096] (by rfl) _)).trans ?_
  canon_tiles y e
  case piece0 =>
    generalize hX : View.readCov (Val := Elt Ideal) a9.view _ _ = X
    idx_vars y
    have hX' : ∀ (r' : Fin 128) q, X (ix2 r' q) = acc7 xo7 x0 x1 x2 x3 ⟨384 + r'.val, by omega⟩ q := fun r' q => by
      rw [← hX, View.readCov_eq_canon']
      refine Eq.trans ?_ (out_B_7 c j a2 h2 a3 h3 a4 h4 a5 h5 a6 h6 a7 h7 a8 h8 a9 h9 x0 x1 x2 x3 x4 x5 xo6 xo7 hj0 hj1 _ q)
      frame_out
      refine congrArg (View.canon _) (funext fun a => Fin.ext ?_)
      match a with
      | ⟨0, _⟩ => show 384 + 1 * r'.val = 384 + r'.val; omega
      | ⟨1, _⟩ => show 0 + 1 * q.val = q.val; omega
    clear hX
    unfold_payloads
    pointwise [inv, hX']
    obtain ⟨r, hr⟩ := r
    obtain ⟨q, hq⟩ := q
    dsimp only [Fin.eta] at e0 e1 ⊢
    subst e0 e1
    simp only [← Nat.add_assoc, Nat.reduceAdd, Nat.zero_add]
  case piece1 =>
    generalize hX : View.readCov (Val := Elt Ideal) a9.view _ _ = X
    idx_vars y
    have hX' : ∀ (r' : Fin 128) q, X (ix2 r' q) = acc7 xo7 x0 x1 x2 x3 ⟨256 + r'.val, by omega⟩ q := fun r' q => by
      rw [← hX, View.readCov_eq_canon']
      refine Eq.trans ?_ (out_B_7 c j a2 h2 a3 h3 a4 h4 a5 h5 a6 h6 a7 h7 a8 h8 a9 h9 x0 x1 x2 x3 x4 x5 xo6 xo7 hj0 hj1 _ q)
      frame_out
      refine congrArg (View.canon _) (funext fun a => Fin.ext ?_)
      match a with
      | ⟨0, _⟩ => show 256 + 1 * r'.val = 256 + r'.val; omega
      | ⟨1, _⟩ => show 0 + 1 * q.val = q.val; omega
    clear hX
    unfold_payloads
    pointwise [inv, hX']
    obtain ⟨r, hr⟩ := r
    obtain ⟨q, hq⟩ := q
    dsimp only [Fin.eta] at e0 e1 ⊢
    subst e0 e1
    simp only [← Nat.add_assoc, Nat.reduceAdd, Nat.zero_add]
  case piece2 =>
    generalize hX : View.readCov (Val := Elt Ideal) a9.view _ _ = X
    idx_vars y
    have hX' : ∀ (r' : Fin 128) q, X (ix2 r' q) = acc7 xo7 x0 x1 x2 x3 ⟨128 + r'.val, by omega⟩ q := fun r' q => by
      rw [← hX, View.readCov_eq_canon']
      refine Eq.trans ?_ (out_B_7 c j a2 h2 a3 h3 a4 h4 a5 h5 a6 h6 a7 h7 a8 h8 a9 h9 x0 x1 x2 x3 x4 x5 xo6 xo7 hj0 hj1 _ q)
      frame_out
      refine congrArg (View.canon _) (funext fun a => Fin.ext ?_)
      match a with
      | ⟨0, _⟩ => show 128 + 1 * r'.val = 128 + r'.val; omega
      | ⟨1, _⟩ => show 0 + 1 * q.val = q.val; omega
    clear hX
    unfold_payloads
    pointwise [inv, hX']
    obtain ⟨r, hr⟩ := r
    obtain ⟨q, hq⟩ := q
    dsimp only [Fin.eta] at e0 e1 ⊢
    subst e0 e1
    simp only [← Nat.add_assoc, Nat.reduceAdd, Nat.zero_add]
  case piece3 =>
    generalize hX : View.readCov (Val := Elt Ideal) a9.view _ _ = X
    idx_vars y
    have hX' : ∀ (r' : Fin 128) q, X (ix2 r' q) = acc7 xo7 x0 x1 x2 x3 ⟨0 + r'.val, by omega⟩ q := fun r' q => by
      rw [← hX, View.readCov_eq_canon']
      refine Eq.trans ?_ (out_B_7 c j a2 h2 a3 h3 a4 h4 a5 h5 a6 h6 a7 h7 a8 h8 a9 h9 x0 x1 x2 x3 x4 x5 xo6 xo7 hj0 hj1 _ q)
      frame_out
      refine congrArg (View.canon _) (funext fun a => Fin.ext ?_)
      match a with
      | ⟨0, _⟩ => show 0 + 1 * r'.val = 0 + r'.val; omega
      | ⟨1, _⟩ => show 0 + 1 * q.val = q.val; omega
    clear hX
    unfold_payloads
    pointwise [inv, hX']
    obtain ⟨r, hr⟩ := r
    obtain ⟨q, hq⟩ := q
    dsimp only [Fin.eta] at e0 e1 ⊢
    subst e0 e1
    simp only [← Nat.add_assoc, Nat.reduceAdd, Nat.zero_add]

end Cert.FfnIdeal.Hand
end
-- ==== Proof.FfnArrays.lean ====
/-
  The feed-forward call's two results after the run, as functions of the argument arrays.
-/
module

public import proofs.«01_k».proof.Proof.FfnStep

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

/-! ## What the whole call computes, from the arrays -/

/-- The hidden layer at plane `p`, row `r`, unit `k`. -/
def HID (A : Vec Ideal S16x576x4096 .bf16) (G U : Vec Ideal S4096x11008 .bf16) (p : Fin 16) (r : Fin 576) (k : Fin 11008) : EReal :=
  (∑ l : Fin 4096, A (ix3 p r l) * G (ix2 l k)) * Ideal.logistic (∑ l : Fin 4096, A (ix3 p r l) * G (ix2 l k))
    * (∑ l : Fin 4096, A (ix3 p r l) * U (ix2 l k))

/-- The down-projection of the hidden layer. -/
def DOWN (A : Vec Ideal S16x576x4096 .bf16) (G U : Vec Ideal S4096x11008 .bf16) (D : Vec Ideal S11008x4096 .bf16)
    (p : Fin 16) (r : Fin 576) (q : Fin 4096) : EReal :=
  ∑ k : Fin 11008, HID A G U p r k * D (ix2 k q)

/-- The layer's output: the residual and the normalised down-projection. -/
def OUT (A : Vec Ideal S16x576x4096 .bf16) (G U : Vec Ideal S4096x11008 .bf16) (D : Vec Ideal S11008x4096 .bf16)
    (X : Vec Ideal S16x576x4096 .f32) (g : Vec Ideal S1x4096 .f32) (p : Fin 16) (r : Fin 576) (q : Fin 4096) : EReal :=
  X (ix3 p r q) + DOWN A G U D p r q * inv (fun q => DOWN A G U D p r q) * g (ix2 0 q)

/-- One term of the down-projection's sum, 0 past the last hidden unit. -/
def term (A : Vec Ideal S16x576x4096 .bf16) (G U : Vec Ideal S4096x11008 .bf16) (D : Vec Ideal S11008x4096 .bf16)
    (p : Fin 16) (r : Fin 576) (q : Fin 4096) (k : ℕ) : EReal :=
  if h : k < 11008 then HID A G U p r ⟨k, h⟩ * D (ix2 ⟨k, h⟩ q) else 0

/-- The terms add up to the down-projection. -/
theorem sum_term (A : Vec Ideal S16x576x4096 .bf16) (G U : Vec Ideal S4096x11008 .bf16) (D : Vec Ideal S11008x4096 .bf16)
    (p : Fin 16) (r : Fin 576) (q : Fin 4096) : ∑ k ∈ Finset.range 11008, term A G U D p r q k = DOWN A G U D p r q := by
  rw [Finset.sum_range]
  exact Finset.sum_congr rfl fun k _ => dif_pos k.isLt

/-! ## The windows' blocks -/

/-- Each input window's block index at a point: plane `t / 43`, hidden block `t % 43`. -/
theorem idx_in : ∀ t : Fin cfg0.N,
    win0_0.index t = ![t.val / 43, 0, 0] ∧ win0_1.index t = ![0, t.val % 43] ∧ win0_2.index t = ![0, t.val % 43]
      ∧ win0_3.index t = ![t.val % 43, 0] ∧ win0_4.index t = ![0, 0] ∧ win0_5.index t = ![t.val / 43, 0, 0]
      ∧ win0_6.index t = ![0, t.val / 43] ∧ win0_7.index t = ![0, t.val / 43] := by decide +kernel

variable (m : (ℓ : Loc nD τ sig) → Buf (Elt Ideal) ℓ) (c : Dev nD)

/-- The call's arguments on device `c`. -/
abbrev aA : Vec Ideal S16x576x4096 .bf16 := m ((c : Thread nD τ).loc main_arg0)
abbrev aG : Vec Ideal S4096x11008 .bf16 := m ((c : Thread nD τ).loc main_arg1)
abbrev aU : Vec Ideal S4096x11008 .bf16 := m ((c : Thread nD τ).loc main_arg2)
abbrev aD : Vec Ideal S11008x4096 .bf16 := m ((c : Thread nD τ).loc main_arg3)
abbrev aX : Vec Ideal S16x576x4096 .f32 := m ((c : Thread nD τ).loc main_arg4)
abbrev ag : Vec Ideal S1x4096 .f32 := m ((c : Thread nD τ).loc main_arg5)

/-- A point's number is below the grid's size. -/
theorem lt_N (t : Fin cfg0.N) : t.val < 688 := Nat.lt_of_lt_of_eq t.isLt N_0

/-- The plane a point works on. -/
def pl (t : Fin cfg0.N) : Fin 16 := ⟨t.val / 43, by have := lt_N t; omega⟩

/-- The blocks a point reads. -/
theorem b0 (t : Fin cfg0.N) (r : Fin 576) (l : Fin 4096) :
    (iblk m c 0 t : Vec Ideal S1x576x4096 .bf16) (ix3 0 r l) = aA m c (ix3 (pl t) r l) := by
  blk_ext [iblk, V, idx_in t, pl]

theorem b1 (t : Fin cfg0.N) (l : Fin 4096) (k : Fin 256) :
    (iblk m c 1 t : Vec Ideal S4096x256 .bf16) (ix2 l k) = aG m c (ix2 l ⟨256 * (t.val % 43) + k.val, by have := lt_N t; omega⟩) := by
  blk_ext [iblk, V, idx_in t]

theorem b2 (t : Fin cfg0.N) (l : Fin 4096) (k : Fin 256) :
    (iblk m c 2 t : Vec Ideal S4096x256 .bf16) (ix2 l k) = aU m c (ix2 l ⟨256 * (t.val % 43) + k.val, by have := lt_N t; omega⟩) := by
  blk_ext [iblk, V, idx_in t]

theorem b3 (t : Fin cfg0.N) (k : Fin 256) (q : Fin 4096) :
    (iblk m c 3 t : Vec Ideal S256x4096 .bf16) (ix2 k q) = aD m c (ix2 ⟨256 * (t.val % 43) + k.val, by have := lt_N t; omega⟩ q) := by
  blk_ext [iblk, V, idx_in t]

theorem b4 (t : Fin cfg0.N) (q : Fin 4096) : (iblk m c 4 t : Vec Ideal S1x4096 .f32) (ix2 0 q) = ag m c (ix2 0 q) := by
  blk_ext [iblk, V, idx_in t]

theorem b5 (t : Fin cfg0.N) (r : Fin 576) (l : Fin 4096) :
    (iblk m c 5 t : Vec Ideal S1x576x4096 .f32) (ix3 0 r l) = aX m c (ix3 (pl t) r l) := by
  blk_ext [iblk, V, idx_in t, pl]

/-- A point's part of the down-projection is its 256 terms of the sum. -/
theorem part_eq (t : Fin cfg0.N) (r : Fin 576) (q : Fin 4096) :
    ∑ k : Fin 256, hid (iblk m c 0 t) (iblk m c 1 t) (iblk m c 2 t) r k * (iblk m c 3 t : Vec Ideal S256x4096 .bf16) (ix2 k q)
      = ∑ k ∈ Finset.range 256, term (aA m c) (aG m c) (aU m c) (aD m c) (pl t) r q (256 * (t.val % 43) + k) := by
  rw [Finset.sum_range]
  refine Finset.sum_congr rfl fun k _ => ?_
  unfold term
  rw [dif_pos (by have := lt_N t; omega)]
  unfold hid HID
  simp only [b0, b1, b2, b3]

/-! ## The accumulator over the points -/

/-- Before a plane's last point, output 0's block holds the terms of the hidden blocks seen so far. -/
theorem run_6 : ∀ (n : ℕ) (h : n < cfg0.N) (_ : n % 43 < 42) (r : Fin 64) (q : Fin 4096),
    (outsAt0 m c n h).1 (ix2 r q)
      = ∑ k ∈ Finset.range (256 * (n % 43 + 1)), term (aA m c) (aG m c) (aU m c) (aD m c) (pl ⟨n, h⟩) ⟨r.val, by omega⟩ q k := by
  intro n
  induction n with
  | zero =>
    intro h _ r q
    rw [outsAt0_A m c ⟨0, h⟩ rfl (by dsimp only; omega)]
    dsimp only
    rw [out_A_6]
    unfold acc6
    rw [part_eq, zero_add]
    simp only [Nat.zero_mod, Nat.mul_zero, Nat.zero_add, Nat.mul_one]
  | succ n ih =>
    intro h hn r q
    by_cases h0 : (n + 1) % 43 = 0
    · rw [outsAt0_A m c ⟨n + 1, h⟩ h0 (by dsimp only; omega)]
      dsimp only
      rw [out_A_6]
      unfold acc6
      rw [part_eq, zero_add]
      simp only [h0, Nat.mul_zero, Nat.zero_add, Nat.mul_one]
    · rw [outsAt0_B m c ⟨n + 1, h⟩ h0 (by dsimp only; omega)]
      dsimp only
      rw [out_B_6]
      unfold acc6
      rw [part_eq]
      have e1 : (n + 1) % 43 = n % 43 + 1 := by omega
      have e2 : pl ⟨n + 1, h⟩ = pl ⟨n, Nat.lt_of_succ_lt h⟩ := Fin.ext (by unfold pl; dsimp only; omega)
      have := ih (Nat.lt_of_succ_lt h) (by omega) r q
      simp only [Nat.add_sub_cancel] at this ⊢
      rw [this, e2, e1, show 256 * (n % 43 + 1 + 1) = 256 * (n % 43 + 1) + 256 by omega, Finset.sum_range_add]

/-- At a plane's last point, output 0's block holds the layer's output. -/
theorem last_6 (t : Fin cfg0.N) (ht : t.val % 43 = 42) (r : Fin 64) (q : Fin 4096) :
    (outsAt0 m c t.val t.isLt).1 (ix2 r q) = OUT (aA m c) (aG m c) (aU m c) (aD m c) (aX m c) (ag m c) (pl t) ⟨r.val, by omega⟩ q := by
  obtain ⟨n, hn⟩ := t
  cases n with
  | zero => exact absurd ht (by dsimp only; omega)
  | succ n =>
    rw [outsAt0_C m c ⟨n + 1, hn⟩ (by dsimp only at ht ⊢; omega) ht]
    dsimp only at ht ⊢
    rw [out_C_6]
    have key : ∀ q : Fin 4096, acc6 (outsAt0 m c (n + 1 - 1) (by omega)).1 (iblk m c 0 ⟨n + 1, hn⟩) (iblk m c 1 ⟨n + 1, hn⟩)
        (iblk m c 2 ⟨n + 1, hn⟩) (iblk m c 3 ⟨n + 1, hn⟩) r q
          = DOWN (aA m c) (aG m c) (aU m c) (aD m c) (pl ⟨n + 1, hn⟩) ⟨r.val, by omega⟩ q := fun q => by
      unfold acc6
      rw [part_eq, ← sum_term]
      have e2 : pl ⟨n + 1, hn⟩ = pl ⟨n, Nat.lt_of_succ_lt hn⟩ := Fin.ext (by unfold pl; dsimp only; omega)
      have := run_6 m c n (Nat.lt_of_succ_lt hn) (by omega) r q
      have e1 : n % 43 = 41 := by omega
      simp only [Nat.add_sub_cancel] at this ⊢
      rw [this, e2, ht, e1, show 11008 = 256 * (41 + 1) + 256 from rfl, Finset.sum_range_add]
    unfold OUT
    rw [b5, b4]
    simp only [key]

/-- Result 0's array after the run. -/
def res6 (i : S64x65536.Idx) : EReal :=
  OUT (aA m c) (aG m c) (aU m c) (aD m c) (aX m c) (ag m c) ⟨(i 1).val / 4096, by have : (i 1).val < 65536 := (i 1).isLt; omega⟩
    ⟨(i 0).val, by have : (i 0).val < 64 := (i 0).isLt; omega⟩ ⟨(i 1).val % 4096, Nat.mod_lt _ (by decide)⟩

/-- The sample rows after the run. -/
theorem final_6 : (dats m 0 c).arrAt 6 cfg0.N = res6 m c := by
  refine (dats m 0 c).arrAt_eq_of_covers 6 _ (by decide +kernel) fun t hf y => ?_
  blk_simp [Value.flushed6]
  have ht : t.val % 43 = 42 := (flush0_6 t).mp hf
  have hl := lt_N t
  rw [after0_6]
  idx_vars y
  refine (last_6 m c t ht y0 y1).trans ?_
  unfold res6 pl
  congr 1 <;> refine Fin.ext ?_ <;> blk_simp [idx_in t] <;> (try dsimp only) <;> omega

/-- Before a plane's last point, output 1's block holds the terms of the hidden blocks seen so far. -/
theorem run_7 : ∀ (n : ℕ) (h : n < cfg0.N) (_ : n % 43 < 42) (r : Fin 512) (q : Fin 4096),
    (outsAt0 m c n h).2 (ix2 r q)
      = ∑ k ∈ Finset.range (256 * (n % 43 + 1)), term (aA m c) (aG m c) (aU m c) (aD m c) (pl ⟨n, h⟩) ⟨64 + r.val, by omega⟩ q k := by
  intro n
  induction n with
  | zero =>
    intro h _ r q
    rw [outsAt0_A m c ⟨0, h⟩ rfl (by dsimp only; omega)]
    dsimp only
    rw [out_A_7]
    unfold acc7
    rw [part_eq, zero_add]
    simp only [Nat.zero_mod, Nat.mul_zero, Nat.zero_add, Nat.mul_one]
  | succ n ih =>
    intro h hn r q
    by_cases h0 : (n + 1) % 43 = 0
    · rw [outsAt0_A m c ⟨n + 1, h⟩ h0 (by dsimp only; omega)]
      dsimp only
      rw [out_A_7]
      unfold acc7
      rw [part_eq, zero_add]
      simp only [h0, Nat.mul_zero, Nat.zero_add, Nat.mul_one]
    · rw [outsAt0_B m c ⟨n + 1, h⟩ h0 (by dsimp only; omega)]
      dsimp only
      rw [out_B_7]
      unfold acc7
      rw [part_eq]
      have e1 : (n + 1) % 43 = n % 43 + 1 := by omega
      have e2 : pl ⟨n + 1, h⟩ = pl ⟨n, Nat.lt_of_succ_lt h⟩ := Fin.ext (by unfold pl; dsimp only; omega)
      have := ih (Nat.lt_of_succ_lt h) (by omega) r q
      simp only [Nat.add_sub_cancel] at this ⊢
      rw [this, e2, e1, show 256 * (n % 43 + 1 + 1) = 256 * (n % 43 + 1) + 256 by omega, Finset.sum_range_add]

/-- At a plane's last point, output 1's block holds the layer's output. -/
theorem last_7 (t : Fin cfg0.N) (ht : t.val % 43 = 42) (r : Fin 512) (q : Fin 4096) :
    (outsAt0 m c t.val t.isLt).2 (ix2 r q) = OUT (aA m c) (aG m c) (aU m c) (aD m c) (aX m c) (ag m c) (pl t) ⟨64 + r.val, by omega⟩ q := by
  obtain ⟨n, hn⟩ := t
  cases n with
  | zero => exact absurd ht (by dsimp only; omega)
  | succ n =>
    rw [outsAt0_C m c ⟨n + 1, hn⟩ (by dsimp only at ht ⊢; omega) ht]
    dsimp only at ht ⊢
    rw [out_C_7]
    have key : ∀ q : Fin 4096, acc7 (outsAt0 m c (n + 1 - 1) (by omega)).2 (iblk m c 0 ⟨n + 1, hn⟩) (iblk m c 1 ⟨n + 1, hn⟩)
        (iblk m c 2 ⟨n + 1, hn⟩) (iblk m c 3 ⟨n + 1, hn⟩) r q
          = DOWN (aA m c) (aG m c) (aU m c) (aD m c) (pl ⟨n + 1, hn⟩) ⟨64 + r.val, by omega⟩ q := fun q => by
      unfold acc7
      rw [part_eq, ← sum_term]
      have e2 : pl ⟨n + 1, hn⟩ = pl ⟨n, Nat.lt_of_succ_lt hn⟩ := Fin.ext (by unfold pl; dsimp only; omega)
      have := run_7 m c n (Nat.lt_of_succ_lt hn) (by omega) r q
      have e1 : n % 43 = 41 := by omega
      simp only [Nat.add_sub_cancel] at this ⊢
      rw [this, e2, ht, e1, show 11008 = 256 * (41 + 1) + 256 from rfl, Finset.sum_range_add]
    unfold OUT
    rw [b5, b4]
    simp only [key]

/-- Result 1's array after the run. -/
def res7 (i : S512x65536.Idx) : EReal :=
  OUT (aA m c) (aG m c) (aU m c) (aD m c) (aX m c) (ag m c) ⟨(i 1).val / 4096, by have : (i 1).val < 65536 := (i 1).isLt; omega⟩
    ⟨64 + (i 0).val, by have : (i 0).val < 512 := (i 0).isLt; omega⟩ ⟨(i 1).val % 4096, Nat.mod_lt _ (by decide)⟩

/-- The prompt rows after the run. -/
theorem final_7 : (dats m 0 c).arrAt 7 cfg0.N = res7 m c := by
  refine (dats m 0 c).arrAt_eq_of_covers 7 _ (by decide +kernel) fun t hf y => ?_
  blk_simp [Value.flushed7]
  have ht : t.val % 43 = 42 := (flush0_7 t).mp hf
  have hl := lt_N t
  rw [after0_7]
  idx_vars y
  refine (last_7 m c t ht y0 y1).trans ?_
  unfold res7 pl
  congr 1 <;> refine Fin.ext ?_ <;> blk_simp [idx_in t] <;> (try dsimp only) <;> omega

end Cert.FfnIdeal.Hand
end
-- ==== Proof.FfnReference.lean ====
/-
  What the feed-forward call's reference computes, element by element.
-/
module

public import proofs.«01_k».proof.Proof.FfnArrays
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.Hand

open Cert.FfnRefIdeal Cert.FfnRefIdeal.Gen Cert.FfnRefIdeal.Read
open Cert.FfnIdeal.Hand (HID DOWN OUT inv)

variable (A : Vec Ideal S16x576x4096 .bf16) (G U : Vec Ideal S4096x11008 .bf16) (D : Vec Ideal S11008x4096 .bf16)
    (X : Vec Ideal S16x576x4096 .f32) (g : Vec Ideal S1x4096 .f32)

/-- The hidden layer, -/
theorem silu_apply (p : Fin 16) (r : Fin 576) (k : Fin 11008) :
    val_main_v6 (F := Ideal) A G U (ix3 p r k) = HID A G U p r k := by
  unfold val_main_v6 val_main_v5 val_main_v3 val_main_call0_v5 val_main_call0_v4 val_main_call0_v3 val_main_call0_v2 val_main_call0_v1 val_main_call0_v0
    val_main_call0_cst val_main_call0_cst_0 val_main_v4 val_main_v2 val_main_v1 val_main_v0
  pointwise [HID]
  rfl

/-- its down-projection, -/
theorem down_apply (p : Fin 16) (r : Fin 576) (q : Fin 4096) :
    val_main_v8 (F := Ideal) A G U D (ix3 p r q) = DOWN A G U D p r q := by
  unfold val_main_v8 val_main_v7
  pointwise [DOWN, silu_apply]

/-- the normalised sum and the residual, -/
theorem out_apply (p : Fin 16) (r : Fin 576) (q : Fin 4096) :
    val_main_v23 (F := Ideal) A G U D X g (ix3 p r q) = OUT A G U D X g p r q := by
  unfold val_main_v23 val_main_v22 val_main_v21 val_main_v20 val_main_v19 val_main_v18 val_main_v17 val_main_v16 val_main_v15 val_main_v14 val_main_v13
    val_main_v12 val_main_v11 val_main_v10 val_main_v9 val_main_cst_1 val_main_cst_0 val_main_cst
  pointwise [OUT, Cert.FfnIdeal.Hand.inv, down_apply]

/-- the sample rows as one view, -/
theorem res0_apply (i : S64x65536.Idx) :
    val_main_v26 (F := Ideal) A G U D X g i
      = OUT A G U D X g ⟨(i 1).val / 4096, by have : (i 1).val < 65536 := (i 1).isLt; omega⟩
          ⟨(i 0).val, by have : (i 0).val < 64 := (i 0).isLt; omega⟩ ⟨(i 1).val % 4096, Nat.mod_lt _ (by decide)⟩ := by
  idx_vars i
  unfold val_main_v26 val_main_v25 val_main_v24
  pointwise [out_apply]

/-- and the prompt rows. -/
theorem res1_apply (i : S512x65536.Idx) :
    val_main_v27 (F := Ideal) A G U D X g i
      = OUT A G U D X g ⟨(i 1).val / 4096, by have : (i 1).val < 65536 := (i 1).isLt; omega⟩
          ⟨64 + (i 0).val, by have : (i 0).val < 512 := (i 0).isLt; omega⟩ ⟨(i 1).val % 4096, Nat.mod_lt _ (by decide)⟩ := by
  idx_vars i
  unfold val_main_v27 val_main_v25 val_main_v24
  pointwise [out_apply]

end Cert.FfnRefIdeal.Hand
end
-- ==== Proof.FfnClaims.lean ====
/-
  The claims about the feed-forward call: its frames, and that its ideal form leaves in both results what the reference
  leaves in its two. The kernel's results come from Proof/FfnArrays.lean, the reference's from Proof/FfnReference.lean.
-/
module

public import proofs.«01_k».proof.Defs
public import proofs.«01_k».proof.Proof.FfnReference
public import proofs.«01_k».proof.Proof.Gen.Ffn.Frame

@[expose] public section

set_option maxRecDepth 16384

noncomputable section

open Idealize.ShloMosaic Idealize.ShloMosaic.TcCoe Idealize.SL.Sem

namespace Cert.Proof.FfnClaims

/-- The kernel's frame: its arguments unchanged, its counters at zero. -/
theorem frame : Cert.quiescent_Ffn := fun m ρ _ => Cert.Ffn.Gen.frame m ρ

/-- The same of its ideal form. -/
theorem frameIdeal : Cert.quiescent_FfnIdeal := fun m ρ _ => Cert.FfnIdeal.Gen.frame m ρ

/-- The same of the reference, which declares no counter. -/
theorem frameRef : Cert.quiescent_FfnRefIdeal := fun m ρ _ =>
  (θ_run Cert.FfnRefIdeal.defs _ _).mono
    (fun r h => ⟨fun c => (h c).2.2, sem_eq_zero_of_no_sems (by decide) r.2⟩)
    (Cert.FfnRefIdeal.Value.run (F := Ideal) m ρ)

/-- Both results of the ideal kernel are the reference's, over the extended reals. -/
theorem algebraic : Cert.algebraic_FfnIdeal_FfnRefIdeal := by
  intro m ρ m' ρ' _ hagree
  refine ⟨fun c => Cert.FfnIdeal.Hand.res6 m c, fun c => Cert.FfnIdeal.Hand.res7 m c, ?_, ?_⟩
  · exact (θ_run Cert.FfnIdeal.defs _ _).mono
      (fun _ h c => ⟨(h c).1.trans (Cert.FfnIdeal.Hand.final_6 m c), (h c).2.1.trans (Cert.FfnIdeal.Hand.final_7 m c), (h c).2.2⟩)
      (Cert.FfnIdeal.Value.run_blocks (F := Ideal) m ρ)
  · refine (θ_run Cert.FfnRefIdeal.defs _ _).mono (fun _ h c => ⟨(h c).1.trans ?_, (h c).2.1.trans ?_, (h c).2.2⟩)
      (Cert.FfnRefIdeal.Value.run (F := Ideal) m' ρ')
    · obtain ⟨e0, e1, e2, e3, e4, e5⟩ := hagree c
      rw [Cert.FfnRefIdeal.Read.val_main_v26_eq, e0, e1, e2, e3, e4, e5]
      exact funext fun i => Cert.FfnRefIdeal.Hand.res0_apply _ _ _ _ _ _ i
    · obtain ⟨e0, e1, e2, e3, e4, e5⟩ := hagree c
      rw [Cert.FfnRefIdeal.Read.val_main_v27_eq, e0, e1, e2, e3, e4, e5]
      exact funext fun i => Cert.FfnRefIdeal.Hand.res1_apply _ _ _ _ _ _ i

end Cert.Proof.FfnClaims

end
-- ==== Proof.InProjStep.lean ====
/-
  One grid point of the input projection: what the body leaves in each output block, and in the scratch that keeps the
  rounded weight tile, element by element over the extended reals.
-/
module

public import proofs.«01_k».proof.Proof.Gen.InProjIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.InProjIdeal.Hand

open Cert.InProjIdeal Cert.InProjIdeal.Gen

variable (c : Dev nD) (i : grid0.Coords)
    (a2 : Memref sig .tc .vmem S1x580x4096 .bf16) (h2 : a2.IsWhole)
    (a3 : Memref sig .tc .vmem S4096x512 .f32) (h3 : a3.IsWhole)
    (a4 : Memref sig .tc .vmem S16x11008 .f32) (h4 : a4.IsWhole)
    (a5 : Memref sig .tc .vmem S16x11008 .f32) (h5 : a5.IsWhole)
    (a6 : Memref sig .tc .vmem S32x4096 .f32) (h6 : a6.IsWhole)
    (a7 : Memref sig .tc .vmem S16x4096 .f32) (h7 : a7.IsWhole)
    (a8 : Memref sig .tc .vmem S1x580x512 .bf16) (h8 : a8.IsWhole)
    (a9 : Memref sig .tc .vmem S16x11008 .bf16) (h9 : a9.IsWhole)
    (a10 : Memref sig .tc .vmem S16x11008 .bf16) (h10 : a10.IsWhole)
    (a11 : Memref sig .tc .vmem S32x4096 .bf16) (h11 : a11.IsWhole)
    (a12 : Memref sig .tc .vmem S16x4096 .bf16) (h12 : a12.IsWhole)
    (a13 : Memref sig .tc .vmem S4096x512 .bf16) (h13 : a13.IsWhole)
    (x0 : Vec Ideal S1x580x4096 .bf16)
    (x1 : Vec Ideal S4096x512 .f32)
    (x2 : Vec Ideal S16x11008 .f32)
    (x3 : Vec Ideal S16x11008 .f32)
    (x4 : Vec Ideal S32x4096 .f32)
    (x5 : Vec Ideal S16x4096 .f32)
    (xs0 : Vec Ideal S4096x512 .bf16)

/-- The first point of a column tile multiplies by the tile it was just handed. -/
theorem out_A_6 (hc0 : cond0_0 i) (r : Fin 580) (q : Fin 512) :
    out0_A_6 (F := Ideal) c i a2 h2 a3 h3 a4 h4 a5 h5 a6 h6 a7 h7 a8 h8 a9 h9 a10 h10 a11 h11 a12 h12 a13 h13 hc0 x0 x1 x2 x3 x4 x5 (ix3 0 r q) = ∑ l : Fin 4096, x0 (ix3 0 r l) * x1 (ix2 l q) := by
  frame_open
  simp (disch := decide) only [↓ View.readCov_skip, ↓ View.readCov_cons_toLoadRect, ↓ View.readCov_fill]
  frame_out
  unfold_payloads
  pointwise

/-- A later point multiplies by the tile kept in scratch. -/
theorem out_B_6 (hc0 : ¬cond0_0 i) (r : Fin 580) (q : Fin 512) :
    out0_B_6 (F := Ideal) c i a2 h2 a3 h3 a4 h4 a5 h5 a6 h6 a7 h7 a8 h8 a9 h9 a10 h10 a11 h11 a12 h12 a13 h13 hc0 x0 x1 x2 x3 x4 x5 xs0 (ix3 0 r q) = ∑ l : Fin 4096, x0 (ix3 0 r l) * xs0 (ix2 l q) := by
  frame_out
  unfold_payloads
  pointwise

/-- The first point keeps the tile. -/
theorem keep_A (hc0 : cond0_0 i) (l : Fin 4096) (q : Fin 512) :
    sout0_A_0 (F := Ideal) c i a2 h2 a3 h3 a4 h4 a5 h5 a6 h6 a7 h7 a8 h8 a9 h9 a10 h10 a11 h11 a12 h12 a13 h13 hc0 x0 x1 x2 x3 x4 x5 (ix2 l q) = x1 (ix2 l q) := by
  frame_out
  unfold_payloads
  pointwise

/-- A later point leaves it. -/
theorem keep_B (hc0 : ¬cond0_0 i) (l : Fin 4096) (q : Fin 512) :
    sout0_B_0 (F := Ideal) c i a2 h2 a3 h3 a4 h4 a5 h5 a6 h6 a7 h7 a8 h8 a9 h9 a10 h10 a11 h11 a12 h12 a13 h13 hc0 x0 x1 x2 x3 x4 x5 xs0 (ix2 l q) = xs0 (ix2 l q) := by
  rfl

/-- Output 1 is a copy of its slab of weights. -/
theorem out_A_7 (hc0 : cond0_0 i) (r : Fin 16) (q : Fin 11008) :
    out0_A_7 (F := Ideal) c i a2 h2 a3 h3 a4 h4 a5 h5 a6 h6 a7 h7 a8 h8 a9 h9 a10 h10 a11 h11 a12 h12 a13 h13 hc0 x0 x1 x2 x3 x4 x5 (ix2 r q) = x2 (ix2 r q) := by
  frame_out
  unfold_payloads
  pointwise

/-- Output 1 is a copy of its slab of weights. -/
theorem out_B_7 (hc0 : ¬cond0_0 i) (r : Fin 16) (q : Fin 11008) :
    out0_B_7 (F := Ideal) c i a2 h2 a3 h3 a4 h4 a5 h5 a6 h6 a7 h7 a8 h8 a9 h9 a10 h10 a11 h11 a12 h12 a13 h13 hc0 x0 x1 x2 x3 x4 x5 xs0 (ix2 r q) = x2 (ix2 r q) := by
  frame_out
  unfold_payloads
  pointwise

/-- Output 2 is a copy of its slab of weights. -/
theorem out_A_8 (hc0 : cond0_0 i) (r : Fin 16) (q : Fin 11008) :
    out0_A_8 (F := Ideal) c i a2 h2 a3 h3 a4 h4 a5 h5 a6 h6 a7 h7 a8 h8 a9 h9 a10 h10 a11 h11 a12 h12 a13 h13 hc0 x0 x1 x2 x3 x4 x5 (ix2 r q) = x3 (ix2 r q) := by
  frame_out
  unfold_payloads
  pointwise

/-- Output 2 is a copy of its slab of weights. -/
theorem out_B_8 (hc0 : ¬cond0_0 i) (r : Fin 16) (q : Fin 11008) :
    out0_B_8 (F := Ideal) c i a2 h2 a3 h3 a4 h4 a5 h5 a6 h6 a7 h7 a8 h8 a9 h9 a10 h10 a11 h11 a12 h12 a13 h13 hc0 x0 x1 x2 x3 x4 x5 xs0 (ix2 r q) = x3 (ix2 r q) := by
  frame_out
  unfold_payloads
  pointwise

/-- Output 3 is a copy of its slab of weights. -/
theorem out_A_9 (hc0 : cond0_0 i) (r : Fin 32) (q : Fin 4096) :
    out0_A_9 (F := Ideal) c i a2 h2 a3 h3 a4 h4 a5 h5 a6 h6 a7 h7 a8 h8 a9 h9 a10 h10 a11 h11 a12 h12 a13 h13 hc0 x0 x1 x2 x3 x4 x5 (ix2 r q) = x4 (ix2 r q) := by
  frame_out
  unfold_payloads
  pointwise

/-- Output 3 is a copy of its slab of weights. -/
theorem out_B_9 (hc0 : ¬cond0_0 i) (r : Fin 32) (q : Fin 4096) :
    out0_B_9 (F := Ideal) c i a2 h2 a3 h3 a4 h4 a5 h5 a6 h6 a7 h7 a8 h8 a9 h9 a10 h10 a11 h11 a12 h12 a13 h13 hc0 x0 x1 x2 x3 x4 x5 xs0 (ix2 r q) = x4 (ix2 r q) := by
  frame_out
  unfold_payloads
  pointwise

/-- Output 4 is a copy of its slab of weights. -/
theorem out_A_10 (hc0 : cond0_0 i) (r : Fin 16) (q : Fin 4096) :
    out0_A_10 (F := Ideal) c i a2 h2 a3 h3 a4 h4 a5 h5 a6 h6 a7 h7 a8 h8 a9 h9 a10 h10 a11 h11 a12 h12 a13 h13 hc0 x0 x1 x2 x3 x4 x5 (ix2 r q) = x5 (ix2 r q) := by
  frame_out
  unfold_payloads
  pointwise

/-- Output 4 is a copy of its slab of weights. -/
theorem out_B_10 (hc0 : ¬cond0_0 i) (r : Fin 16) (q : Fin 4096) :
    out0_B_10 (F := Ideal) c i a2 h2 a3 h3 a4 h4 a5 h5 a6 h6 a7 h7 a8 h8 a9 h9 a10 h10 a11 h11 a12 h12 a13 h13 hc0 x0 x1 x2 x3 x4 x5 xs0 (ix2 r q) = x5 (ix2 r q) := by
  frame_out
  unfold_payloads
  pointwise

end Cert.InProjIdeal.Hand

end
-- ==== Proof.InProjArrays.lean ====
/-
  The input projection's five arrays after the run: the product of the normed rows with the weights, and the four other
  weights copied slab by slab.
-/
module

public import proofs.«01_k».proof.Proof.InProjStep
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen

/-- Each window's block index at a point: column tile `t / 16`, plane `t % 16`, slab `t / 2`, down slab `min t 343`. -/
theorem idx_in : ∀ t : Fin cfg0.N,
    win0_0.index t = ![t.val % 16, 0, 0] ∧ win0_1.index t = ![0, t.val / 16] ∧ win0_2.index t = ![t.val / 2, 0]
      ∧ win0_3.index t = ![t.val / 2, 0] ∧ win0_4.index t = ![min t.val 343, 0] ∧ win0_5.index t = ![t.val / 2, 0]
      ∧ win0_6.index t = ![t.val % 16, 0, t.val / 16] ∧ win0_7.index t = ![t.val / 2, 0] ∧ win0_8.index t = ![t.val / 2, 0]
      ∧ win0_9.index t = ![min t.val 343, 0] ∧ win0_10.index t = ![t.val / 2, 0] := by decide +kernel

variable (m : (ℓ : Loc nD τ sig) → Buf (Elt Ideal) ℓ) (c : Dev nD)

/-- The call's arguments on device `c`. -/
abbrev aA : Vec Ideal S16x580x4096 .bf16 := m ((c : Thread nD τ).loc main_arg0)
abbrev aW : Vec Ideal S1x4096x16384 .f32 := m ((c : Thread nD τ).loc main_arg1)
abbrev aG : Vec Ideal S1x4096x11008 .f32 := m ((c : Thread nD τ).loc main_arg2)
abbrev aU : Vec Ideal S1x4096x11008 .f32 := m ((c : Thread nD τ).loc main_arg3)
abbrev aD : Vec Ideal S1x11008x4096 .f32 := m ((c : Thread nD τ).loc main_arg4)
abbrev aO : Vec Ideal S1x4096x4096 .f32 := m ((c : Thread nD τ).loc main_arg5)

/-- A point's number is below the grid's size. -/
theorem lt_N (t : Fin cfg0.N) : t.val < 512 := Nat.lt_of_lt_of_eq t.isLt N_0

/-- The reshaped weights at the region's entry, element by element. -/
theorem vW (l : Fin 4096) (k : Fin 16384) : (V m c main_v0 : Vec Ideal S4096x16384 .f32) (ix2 l k) = aW m c (ix3 0 l k) := by
  unfold V; after_reads_at
theorem vG (l : Fin 4096) (k : Fin 11008) : (V m c main_v1 : Vec Ideal S4096x11008 .f32) (ix2 l k) = aG m c (ix3 0 l k) := by
  unfold V; after_reads_at
theorem vU (l : Fin 4096) (k : Fin 11008) : (V m c main_v2 : Vec Ideal S4096x11008 .f32) (ix2 l k) = aU m c (ix3 0 l k) := by
  unfold V; after_reads_at
theorem vD (l : Fin 11008) (k : Fin 4096) : (V m c main_v3 : Vec Ideal S11008x4096 .f32) (ix2 l k) = aD m c (ix3 0 l k) := by
  unfold V; after_reads_at
theorem vO (l : Fin 4096) (k : Fin 4096) : (V m c main_v4 : Vec Ideal S4096x4096 .f32) (ix2 l k) = aO m c (ix3 0 l k) := by
  unfold V; after_reads_at

theorem b0 (t : Fin cfg0.N) (r : Fin 580) (l : Fin 4096) :
    (iblk m c 0 t : Vec Ideal S1x580x4096 .bf16) (ix3 0 r l) = aA m c (ix3 ⟨t.val % 16, by omega⟩ r l) := by
  unfold aA; rw [← V_main_arg0 m c]
  blk_ext [iblk, idx_in t]

theorem b1 (t : Fin cfg0.N) (l : Fin 4096) (k : Fin 512) :
    (iblk m c 1 t : Vec Ideal S4096x512 .f32) (ix2 l k) = aW m c (ix3 0 l ⟨512 * (t.val / 16) + k.val, by have := lt_N t; omega⟩) := by
  rw [← vW]
  blk_ext [iblk, idx_in t]

theorem b2 (t : Fin cfg0.N) (l : Fin 16) (k : Fin 11008) :
    (iblk m c 2 t : Vec Ideal S16x11008 .f32) (ix2 l k) = aG m c (ix3 0 ⟨16 * (t.val / 2) + l.val, by have := lt_N t; omega⟩ k) := by
  rw [← vG]
  blk_ext [iblk, idx_in t]

theorem b3 (t : Fin cfg0.N) (l : Fin 16) (k : Fin 11008) :
    (iblk m c 3 t : Vec Ideal S16x11008 .f32) (ix2 l k) = aU m c (ix3 0 ⟨16 * (t.val / 2) + l.val, by have := lt_N t; omega⟩ k) := by
  rw [← vU]
  blk_ext [iblk, idx_in t]

theorem b4 (t : Fin cfg0.N) (l : Fin 32) (k : Fin 4096) :
    (iblk m c 4 t : Vec Ideal S32x4096 .f32) (ix2 l k) = aD m c (ix3 0 ⟨32 * (min t.val 343) + l.val, by omega⟩ k) := by
  rw [← vD]
  blk_ext [iblk, idx_in t]

theorem b5 (t : Fin cfg0.N) (l : Fin 16) (k : Fin 4096) :
    (iblk m c 5 t : Vec Ideal S16x4096 .f32) (ix2 l k) = aO m c (ix3 0 ⟨16 * (t.val / 2) + l.val, by have := lt_N t; omega⟩ k) := by
  rw [← vO]
  blk_ext [iblk, idx_in t]

/-- The scratch holds the point's column tile of the weights. -/
theorem kept : ∀ (n : ℕ) (h : n < cfg0.N) (l : Fin 4096) (q : Fin 512),
    (outsAt0 m c n h).2.2.2.2.2 (ix2 l q) = aW m c (ix3 0 l ⟨512 * (n / 16) + q.val, by have := lt_N ⟨n, h⟩; dsimp only at this; omega⟩) := by
  intro n
  induction n with
  | zero =>
    intro h l q
    rw [outsAt0_A m c ⟨0, h⟩ rfl]
    dsimp only
    rw [keep_A, b1]
  | succ n ih =>
    intro h l q
    by_cases h0 : (n + 1) % 16 = 0
    · rw [outsAt0_A m c ⟨n + 1, h⟩ h0]
      dsimp only
      rw [keep_A, b1]
    · rw [outsAt0_B m c ⟨n + 1, h⟩ h0]
      dsimp only
      rw [keep_B]
      refine (ih (Nat.lt_of_succ_lt h) l q).trans ?_
      have e : (n + 1) / 16 = n / 16 := by omega
      simp only [e]

/-- What a point leaves in the projection's block. -/
theorem at_6 (t : Fin cfg0.N) (r : Fin 580) (q : Fin 512) :
    (outsAt0 m c t.val t.isLt).1 (ix3 0 r q)
      = ∑ l : Fin 4096, aA m c (ix3 ⟨t.val % 16, by omega⟩ r l) * aW m c (ix3 0 l ⟨512 * (t.val / 16) + q.val, by have := lt_N t; omega⟩) := by
  by_cases h0 : t.val % 16 = 0
  · rw [outsAt0_A m c t h0]
    dsimp only
    rw [out_A_6]
    simp only [b0, b1]
  · rw [outsAt0_B m c t h0]
    dsimp only
    rw [out_B_6]
    have hp : 0 < t.val := by omega
    have e : (t.val - 1) / 16 = t.val / 16 := by omega
    simp only [b0, kept, e]

/-- What a point leaves in output 1's block. -/
theorem at_7 (t : Fin cfg0.N) (r : Fin 16) (q : Fin 11008) :
    (outsAt0 m c t.val t.isLt).2.1 (ix2 r q) = aG m c (ix3 0 ⟨16 * (t.val / 2) + r.val, by have := lt_N t; omega⟩ q) := by
  by_cases h0 : t.val % 16 = 0
  · rw [outsAt0_A m c t h0]
    dsimp only
    rw [out_A_7, b2]
  · rw [outsAt0_B m c t h0]
    dsimp only
    rw [out_B_7, b2]

/-- What a point leaves in output 2's block. -/
theorem at_8 (t : Fin cfg0.N) (r : Fin 16) (q : Fin 11008) :
    (outsAt0 m c t.val t.isLt).2.2.1 (ix2 r q) = aU m c (ix3 0 ⟨16 * (t.val / 2) + r.val, by have := lt_N t; omega⟩ q) := by
  by_cases h0 : t.val % 16 = 0
  · rw [outsAt0_A m c t h0]
    dsimp only
    rw [out_A_8, b3]
  · rw [outsAt0_B m c t h0]
    dsimp only
    rw [out_B_8, b3]

/-- What a point leaves in output 3's block. -/
theorem at_9 (t : Fin cfg0.N) (r : Fin 32) (q : Fin 4096) :
    (outsAt0 m c t.val t.isLt).2.2.2.1 (ix2 r q) = aD m c (ix3 0 ⟨32 * (min t.val 343) + r.val, by have := lt_N t; omega⟩ q) := by
  by_cases h0 : t.val % 16 = 0
  · rw [outsAt0_A m c t h0]
    dsimp only
    rw [out_A_9, b4]
  · rw [outsAt0_B m c t h0]
    dsimp only
    rw [out_B_9, b4]

/-- What a point leaves in output 4's block. -/
theorem at_10 (t : Fin cfg0.N) (r : Fin 16) (q : Fin 4096) :
    (outsAt0 m c t.val t.isLt).2.2.2.2.1 (ix2 r q) = aO m c (ix3 0 ⟨16 * (t.val / 2) + r.val, by have := lt_N t; omega⟩ q) := by
  by_cases h0 : t.val % 16 = 0
  · rw [outsAt0_A m c t h0]
    dsimp only
    rw [out_A_10, b5]
  · rw [outsAt0_B m c t h0]
    dsimp only
    rw [out_B_10, b5]

/-- The projection after the run. -/
def res6 (i : S16x580x16384.Idx) : EReal := ∑ l : Fin 4096, aA m c (ix3 (i 0) (i 1) l) * aW m c (ix3 0 l (i 2))

/-- The projection after the run. -/
theorem final_6 : (dats m 0 c).arrAt 6 cfg0.N = res6 m c := by
  refine (dats m 0 c).arrAt_eq_of_covers 6 _ (by decide +kernel) fun t hf y => ?_
  blk_simp [Value.flushed6]
  have hl := lt_N t
  rw [after0_6]
  idx_vars y
  obtain rfl : y0 = 0 := Subsingleton.elim _ _
  refine (at_6 m c t y1 y2).trans ?_
  unfold res6
  refine Finset.sum_congr rfl fun l _ => ?_
  congr 2 <;> congr 1 <;> refine Fin.ext ?_ <;> blk_simp [idx_in t] <;> (try dsimp only) <;> omega

/-- Output 1 after the run: a copy of the weights. -/
def res7 (i : S4096x11008.Idx) : EReal := aG m c (ix3 0 (i 0) (i 1))

/-- The first copy after the run. -/
theorem final_7 : (dats m 0 c).arrAt 7 cfg0.N = res7 m c := by
  refine (dats m 0 c).arrAt_eq_of_covers 7 _ (by decide +kernel) fun t hf y => ?_
  blk_simp [Value.flushed7]
  have hl := lt_N t
  rw [after0_7]
  idx_vars y
  refine (at_7 m c t y0 y1).trans ?_
  unfold res7
  congr 2 <;> refine Fin.ext ?_ <;> blk_simp [idx_in t] <;> (try dsimp only) <;> omega

/-- Output 2 after the run: a copy of the weights. -/
def res8 (i : S4096x11008.Idx) : EReal := aU m c (ix3 0 (i 0) (i 1))

/-- The second copy after the run. -/
theorem final_8 : (dats m 0 c).arrAt 8 cfg0.N = res8 m c := by
  refine (dats m 0 c).arrAt_eq_of_covers 8 _ (by decide +kernel) fun t hf y => ?_
  blk_simp [Value.flushed8]
  have hl := lt_N t
  rw [after0_8]
  idx_vars y
  refine (at_8 m c t y0 y1).trans ?_
  unfold res8
  congr 2 <;> refine Fin.ext ?_ <;> blk_simp [idx_in t] <;> (try dsimp only) <;> omega

/-- Output 3 after the run: a copy of the weights. -/
def res9 (i : S11008x4096.Idx) : EReal := aD m c (ix3 0 (i 0) (i 1))

/-- The third copy after the run. -/
theorem final_9 : (dats m 0 c).arrAt 9 cfg0.N = res9 m c := by
  refine (dats m 0 c).arrAt_eq_of_covers 9 _ (by decide +kernel) fun t hf y => ?_
  blk_simp [Value.flushed9]
  have hl := lt_N t
  rw [after0_9]
  idx_vars y
  refine (at_9 m c t y0 y1).trans ?_
  unfold res9
  congr 2 <;> refine Fin.ext ?_ <;> blk_simp [idx_in t] <;> (try dsimp only) <;> omega

/-- Output 4 after the run: a copy of the weights. -/
def res10 (i : S4096x4096.Idx) : EReal := aO m c (ix3 0 (i 0) (i 1))

/-- The fourth copy after the run. -/
theorem final_10 : (dats m 0 c).arrAt 10 cfg0.N = res10 m c := by
  refine (dats m 0 c).arrAt_eq_of_covers 10 _ (by decide +kernel) fun t hf y => ?_
  blk_simp [Value.flushed10]
  have hl := lt_N t
  rw [after0_10]
  idx_vars y
  refine (at_10 m c t y0 y1).trans ?_
  unfold res10
  congr 2 <;> refine Fin.ext ?_ <;> blk_simp [idx_in t] <;> (try dsimp only) <;> omega

end Cert.InProjIdeal.Hand

end
-- ==== Proof.InProjClaims.lean ====
/-
  The claims about the input projection: its frames, and that its ideal form leaves in its five results what the
  reference leaves in its own.
-/
module

public import proofs.«01_k».proof.Defs
public import proofs.«01_k».proof.Proof.InProjArrays
public import proofs.«01_k».proof.Proof.Gen.InProj.Frame
public import proofs.«01_k».proof.Proof.Gen.InProjRefIdeal.Read
public import Idealize.ShloMosaic.Lib.Quiescent

@[expose] public section

set_option maxRecDepth 16384

noncomputable section

open Idealize.ShloMosaic Idealize.ShloMosaic.TcCoe Idealize.SL.Sem

namespace Cert.InProjRefIdeal.Hand

open Cert.InProjRefIdeal Cert.InProjRefIdeal.Gen Cert.InProjRefIdeal.Read

/-- The reference's projection, element by element. -/
theorem proj_apply (A : Vec Ideal S16x580x4096 .bf16) (W : Vec Ideal S1x4096x16384 .f32) (i : S16x580x16384.Idx) :
    val_main_v3 (F := Ideal) A W i = ∑ l : Fin 4096, A (ix3 (i 0) (i 1) l) * W (ix3 0 l (i 2)) := by
  idx_vars i
  unfold val_main_v3 val_main_v2 val_main_v1 val_main_v0
  pointwise

/-- The reference's copies of the weights, element by element. -/
theorem gate_apply (G : Vec Ideal S1x4096x11008 .f32) (i : S4096x11008.Idx) :
    val_main_v5 (F := Ideal) G i = G (ix3 0 (i 0) (i 1)) := by
  idx_vars i
  unfold val_main_v5 val_main_v4
  pointwise

@[inherit_doc gate_apply]
theorem up_apply (G : Vec Ideal S1x4096x11008 .f32) (i : S4096x11008.Idx) :
    val_main_v7 (F := Ideal) G i = G (ix3 0 (i 0) (i 1)) := by
  idx_vars i
  unfold val_main_v7 val_main_v6
  pointwise

@[inherit_doc gate_apply]
theorem down_apply (G : Vec Ideal S1x11008x4096 .f32) (i : S11008x4096.Idx) :
    val_main_v9 (F := Ideal) G i = G (ix3 0 (i 0) (i 1)) := by
  idx_vars i
  unfold val_main_v9 val_main_v8
  pointwise

@[inherit_doc gate_apply]
theorem o_apply (G : Vec Ideal S1x4096x4096 .f32) (i : S4096x4096.Idx) :
    val_main_v11 (F := Ideal) G i = G (ix3 0 (i 0) (i 1)) := by
  idx_vars i
  unfold val_main_v11 val_main_v10
  pointwise

end Cert.InProjRefIdeal.Hand

namespace Cert.Proof.InProjClaims

/-- The kernel's frame: its arguments unchanged, its counters at zero. -/
theorem frame : Cert.quiescent_InProj := fun m ρ _ => Cert.InProj.Gen.frame m ρ

/-- The same of its ideal form. -/
theorem frameIdeal : Cert.quiescent_InProjIdeal := fun m ρ _ => Cert.InProjIdeal.Gen.frame m ρ

/-- The same of the reference, which declares no counter. -/
theorem frameRef : Cert.quiescent_InProjRefIdeal := fun m ρ _ =>
  (θ_run Cert.InProjRefIdeal.defs _ _).mono
    (fun r h => ⟨fun c => (h c).2.2.2.2.2, sem_eq_zero_of_no_sems (by decide) r.2⟩)
    (Cert.InProjRefIdeal.Value.run (F := Ideal) m ρ)

open Cert.InProjIdeal.Hand Cert.InProjRefIdeal.Hand Cert.InProjRefIdeal.Read in
/-- The five results of the ideal kernel are the reference's, over the extended reals. -/
theorem algebraic : Cert.algebraic_InProjIdeal_InProjRefIdeal := by
  intro m ρ m' ρ' _ hagree
  refine ⟨fun c => res6 m c, fun c => res7 m c, fun c => res8 m c, fun c => res9 m c, fun c => res10 m c, ?_, ?_⟩
  · exact (θ_run Cert.InProjIdeal.defs _ _).mono
      (fun _ h c => ⟨(h c).1.trans (final_6 m c), (h c).2.1.trans (final_7 m c), (h c).2.2.1.trans (final_8 m c),
        (h c).2.2.2.1.trans (final_9 m c), (h c).2.2.2.2.1.trans (final_10 m c), (h c).2.2.2.2.2⟩)
      (Cert.InProjIdeal.Value.run_blocks (F := Ideal) m ρ)
  · refine (θ_run Cert.InProjRefIdeal.defs _ _).mono
      (fun _ h c => ⟨(h c).1.trans ?_, (h c).2.1.trans ?_, (h c).2.2.1.trans ?_, (h c).2.2.2.1.trans ?_,
        (h c).2.2.2.2.1.trans ?_, (h c).2.2.2.2.2⟩)
      (Cert.InProjRefIdeal.Value.run (F := Ideal) m' ρ')
    all_goals obtain ⟨e0, e1, e2, e3, e4, e5⟩ := hagree c
    · rw [e0, e1]; exact (val_main_v3_eq _ _).trans (funext fun i => proj_apply _ _ i)
    · rw [e2]; exact (val_main_v5_eq _).trans (funext fun i => gate_apply _ i)
    · rw [e3]; exact (val_main_v7_eq _).trans (funext fun i => up_apply _ i)
    · rw [e4]; exact (val_main_v9_eq _).trans (funext fun i => down_apply _ i)
    · rw [e5]; exact (val_main_v11_eq _).trans (funext fun i => o_apply _ i)

end Cert.Proof.InProjClaims

end
-- ==== Proof.ConvStep.lean ====
/-
  One channel tile of the short convolution: what the body leaves in its three output blocks, element by element over the
  extended reals. Rows are runs of 16 positions, one position a plane: 64 rows of sample runs (two sequences of 8 each),
  then 512 of prompt runs (four sequences of 128), then 4 of leading positions, one a prompt sequence.
-/
module

public import proofs.«01_k».proof.Proof.Gen.ConvIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.ConvIdeal.Hand

open Cert.ConvIdeal Cert.ConvIdeal.Gen

/-! ## One channel of the convolution -/

/-- The gated input `z` at plane `t` and row `r`, 0 off the layout. -/
def at_ (z : Fin 16 → Fin 580 → EReal) (t r : ℕ) : EReal := if h : t < 16 ∧ r < 580 then z ⟨t, h.1⟩ ⟨r, h.2⟩ else 0

/-- The carried state `s` of half `h`, age `k` and row `r`, 0 off the layout. -/
def state_ (s : Fin 2 → Fin 2 → Fin 64 → EReal) (h k r : ℕ) : EReal :=
  if e : h < 2 ∧ k < 2 ∧ r < 64 then s ⟨h, e.1⟩ ⟨k, e.2.1⟩ ⟨r, e.2.2⟩ else 0

/-- Position `k` of the run before row `r`'s: the row above, or a prompt's leading positions, or nothing. -/
def before (z : Fin 16 → Fin 580 → EReal) (k r : ℕ) : EReal :=
  if r < 576 then (if (r - 64) % 128 = 0 then at_ z k (576 + (r - 64) / 128) else at_ z k (r - 1)) else 0

/-- The gated input one position back. -/
def lag1 (z : Fin 16 → Fin 580 → EReal) (s : Fin 2 → Fin 2 → Fin 64 → EReal) (t r : ℕ) : EReal :=
  if r < 64 then (if t % 8 = 0 then state_ s (t / 8) 1 r else at_ z (t - 1) r)
  else if t = 0 then before z 15 r else at_ z (t - 1) r

/-- The gated input two positions back. -/
def lag2 (z : Fin 16 → Fin 580 → EReal) (s : Fin 2 → Fin 2 → Fin 64 → EReal) (t r : ℕ) : EReal :=
  if r < 64 then (if t % 8 = 0 then state_ s (t / 8) 0 r else if t % 8 = 1 then state_ s (t / 8) 1 r else at_ z (t - 2) r)
  else if t = 0 then before z 14 r else if t = 1 then before z 15 r else at_ z (t - 2) r

/-- The convolution's output: three taps on the gated input, times the second gate. -/
def conv (z : Fin 16 → Fin 580 → EReal) (s : Fin 2 → Fin 2 → Fin 64 → EReal) (w : Fin 3 → EReal) (b : EReal) (t r : ℕ) : EReal :=
  b * (w 0 * lag2 z s t r + w 1 * lag1 z s t r + w 2 * at_ z t r)

/-- A gated input within range. -/
theorem at_of (z : Fin 16 → Fin 580 → EReal) (t r : ℕ) (T : Fin 16) (R : Fin 580) (hT : t = T.val) (hR : r = R.val) :
    at_ z t r = z T R := by
  subst hT hR
  exact dif_pos ⟨T.isLt, R.isLt⟩

/-- A read of the scratch's half 0, which holds plane 14's gated inputs from position 8 on. -/
theorem scratch_0 (v : View sig .tc .vmem S2x596x128 .f32) (i1 i0) (p1 p0 : Vec Ideal S1x580x128 .f32) (o n : ℕ) (hi) (h : 8 ≤ o) (h' : o + n ≤ 588) :
    View.readCov (Val := Elt Ideal) v [⟨Rect.unit (s := S2x596x128) ![1, 8, 0] ![1, 580, 128] i1, p1⟩, ⟨Rect.unit (s := S2x596x128) ![0, 8, 0] ![1, 580, 128] i0, p0⟩]
        (Rect.unit (s := S2x596x128) ![0, o, 0] ![1, n, 128] hi).toLoadRect
      = fun y => p0 (ix3 0 ⟨o - 8 + (y 1).val, by have : (y 1).val < n := (y 1).isLt; omega⟩ (y 2)) := by
  rw [View.readCov_eq_canon']
  funext y
  have hy : (y 1).val < n := (y 1).isLt
  have hz : (y 0).val < 1 := (y 0).isLt
  rw [View.canon_cons_of_not_mem]
  · refine Eq.trans (congrArg _ ?_) (View.canon_cons_emb _ _ [] _)
    refine funext fun a => Fin.ext ?_
    match a with
    | ⟨0, _⟩ => exact (show 0 + 1 * (y 0).val = 0 + 1 * 0 by omega)
    | ⟨1, _⟩ => exact (show o + 1 * (y 1).val = 8 + 1 * (o - 8 + (y 1).val) by omega)
    | ⟨2, _⟩ => rfl
  · intro hm
    obtain ⟨j, _, hj⟩ := (LoadRect.mem_set (Rect.unit (s := S2x596x128) ![1, 8, 0] ![1, 580, 128] i1).toLoadRect).mp hm 0
    have : 0 + 1 * (y 0).val = 1 + 1 * j := hj
    omega

/-- A read of the scratch's half 1, which holds plane 15's gated inputs from position 8 on. -/
theorem scratch_1 (v : View sig .tc .vmem S2x596x128 .f32) (i1 i0) (p1 p0 : Vec Ideal S1x580x128 .f32) (o n : ℕ) (hi) (h : 8 ≤ o) (h' : o + n ≤ 588) :
    View.readCov (Val := Elt Ideal) v [⟨Rect.unit (s := S2x596x128) ![1, 8, 0] ![1, 580, 128] i1, p1⟩, ⟨Rect.unit (s := S2x596x128) ![0, 8, 0] ![1, 580, 128] i0, p0⟩]
        (Rect.unit (s := S2x596x128) ![1, o, 0] ![1, n, 128] hi).toLoadRect
      = fun y => p1 (ix3 0 ⟨o - 8 + (y 1).val, by have : (y 1).val < n := (y 1).isLt; omega⟩ (y 2)) := by
  rw [View.readCov_eq_canon']
  funext y
  have hy : (y 1).val < n := (y 1).isLt
  have hz : (y 0).val < 1 := (y 0).isLt
  refine Eq.trans (congrArg _ ?_) (View.canon_cons_emb _ _ [_] _)
  refine funext fun a => Fin.ext ?_
  match a with
  | ⟨0, _⟩ => exact (show 1 + 1 * (y 0).val = 1 + 1 * 0 by omega)
  | ⟨1, _⟩ => exact (show o + 1 * (y 1).val = 8 + 1 * (o - 8 + (y 1).val) by omega)
  | ⟨2, _⟩ => rfl

variable (c : Dev nD) (i : grid0.Coords)
    (a1 : Memref sig .tc .vmem S16x580x128 .bf16) (h1 : a1.IsWhole)
    (a2 : Memref sig .tc .vmem S16x580x128 .bf16) (h2 : a2.IsWhole)
    (a3 : Memref sig .tc .vmem S16x580x128 .bf16) (h3 : a3.IsWhole)
    (a4 : Memref sig .tc .vmem S3x128 .f32) (h4 : a4.IsWhole)
    (a5 : Memref sig .tc .vmem S2x2x64x128 .f32) (h5 : a5.IsWhole)
    (a6 : Memref sig .tc .vmem S16x580x128 .bf16) (h6 : a6.IsWhole)
    (a7 : Memref sig .tc .vmem S2x2x64x128 .f32) (h7 : a7.IsWhole)
    (a8 : Memref sig .tc .vmem S2x4x128 .f32) (h8 : a8.IsWhole)
    (a9 : Memref sig .tc .vmem S2x596x128 .f32) (h9 : a9.IsWhole)
    (x0 x1 x2 : Vec Ideal S16x580x128 .bf16) (x3 : Vec Ideal S3x128 .f32) (x4 : Vec Ideal S2x2x64x128 .f32)

/-- The gated input of one channel of a tile. -/
def tz (x0 x2 : Vec Ideal S16x580x128 .bf16) (q : Fin 128) (t : Fin 16) (r : Fin 580) : EReal := x2 (ix3 t r q) * x0 (ix3 t r q)

/-- The carried state of one channel of a tile. -/
def ts (x4 : Vec Ideal S2x2x64x128 .f32) (q : Fin 128) (h k : Fin 2) (r : Fin 64) : EReal := x4 (ix4 h k r q)

/-- The sample state: the last two gated inputs of each sequence. -/
theorem out_6 (h k : Fin 2) (r : Fin 64) (q : Fin 128) :
    out0_A_6 (F := Ideal) c i a1 h1 a2 h2 a3 h3 a4 h4 a5 h5 a6 h6 a7 h7 a8 h8 a9 h9 x0 x1 x2 x3 x4 (ix4 h k r q) = at_ (tz x0 x2 q) (8 * h.val + k.val + 6) r.val := by
  frame_out
  canon_tiles y e
  all_goals
    idx_vars y
    unfold_payloads
    pointwise [tz]
    obtain rfl : q = y3 := Fin.ext e3
    have h0 : y0.val = 0 := by omega
    have h1 : y1.val = 0 := by omega
  case piece0 => exact (at_of (tz x0 x2 q) _ _ 15 ⟨y2.val, by omega⟩ (show _ = 15 by omega) (show _ = y2.val by omega)).symm
  case piece1 => exact (at_of (tz x0 x2 q) _ _ 14 ⟨y2.val, by omega⟩ (show _ = 14 by omega) (show _ = y2.val by omega)).symm
  case piece2 => exact (at_of (tz x0 x2 q) _ _ 7 ⟨y2.val, by omega⟩ (show _ = 7 by omega) (show _ = y2.val by omega)).symm
  case piece3 => exact (at_of (tz x0 x2 q) _ _ 6 ⟨y2.val, by omega⟩ (show _ = 6 by omega) (show _ = y2.val by omega)).symm

/-- The prompt state: the last two gated inputs of each sequence. -/
theorem out_7 (k : Fin 2) (n : Fin 4) (q : Fin 128) :
    out0_A_7 (F := Ideal) c i a1 h1 a2 h2 a3 h3 a4 h4 a5 h5 a6 h6 a7 h7 a8 h8 a9 h9 x0 x1 x2 x3 x4 (ix3 k n q) = at_ (tz x0 x2 q) (14 + k.val) (191 + 128 * n.val) := by
  frame_out
  simp (disch := decide) only [scratch_0, scratch_1]
  canon_tiles y e
  all_goals
    idx_vars y
    unfold_payloads
    pointwise [tz]
    obtain rfl : q = y2 := Fin.ext e2
    have h0 : y0.val = 0 := by omega
    have h1 : y1.val = 0 := by omega
  case piece0 => exact (at_of (tz x0 x2 q) _ _ 15 575 (show _ = 15 by omega) (show _ = 575 by omega)).symm
  case piece1 => exact (at_of (tz x0 x2 q) _ _ 15 447 (show _ = 15 by omega) (show _ = 447 by omega)).symm
  case piece2 => exact (at_of (tz x0 x2 q) _ _ 15 319 (show _ = 15 by omega) (show _ = 319 by omega)).symm
  case piece3 => exact (at_of (tz x0 x2 q) _ _ 15 191 (show _ = 15 by omega) (show _ = 191 by omega)).symm
  case piece4 => exact (at_of (tz x0 x2 q) _ _ 14 575 (show _ = 14 by omega) (show _ = 575 by omega)).symm
  case piece5 => exact (at_of (tz x0 x2 q) _ _ 14 447 (show _ = 14 by omega) (show _ = 447 by omega)).symm
  case piece6 => exact (at_of (tz x0 x2 q) _ _ 14 319 (show _ = 14 by omega) (show _ = 319 by omega)).symm
  case piece7 => exact (at_of (tz x0 x2 q) _ _ 14 191 (show _ = 14 by omega) (show _ = 191 by omega)).symm

end Cert.ConvIdeal.Hand

end
-- ==== Proof.ConvRows.lean ====
/-
  The short convolution's main output at one tile: each of its 32 pieces (16 positions, sample rows and the other rows
  apart) holds the three taps of the gated input, times the second gate.
-/
module

public import proofs.«01_k».proof.Proof.ConvStep

@[expose] public section

set_option maxRecDepth 16384

noncomputable section

open Idealize.ShloMosaic Idealize.ShloMosaic.TcCoe Idealize.SL.Sem

namespace Cert.ConvIdeal.Hand

open Cert.ConvIdeal Cert.ConvIdeal.Gen

/-- A choice by whether a row's number is `n`. -/
theorem pick (r n : ℕ) (hr : r < 2 ^ 32) (hn : n < 2 ^ 32) (x y : EReal) :
    Scalar.select (IntOp.cmpi .eq (BitVec.ofNat 32 r) (BitVec.ofNat 32 n)) x y = if r = n then x else y := by
  by_cases h : r = n
  · subst h
    simp [Scalar.select, IntOp.cmpi]
  · have hb : BitVec.ofNat 32 r ≠ BitVec.ofNat 32 n := fun e => h (by
      have := congrArg BitVec.toNat e
      rwa [BitVec.toNat_ofNat, BitVec.toNat_ofNat, Nat.mod_eq_of_lt hr, Nat.mod_eq_of_lt hn] at this)
    have hf : (BitVec.ofNat 32 r == BitVec.ofNat 32 n) = false := beq_eq_false_iff_ne.mpr hb
    rw [if_neg h]
    unfold Scalar.select IntOp.cmpi
    dsimp only
    rw [hf]
    rfl

/-- The choice the kernel makes of the run before: the row above, but at a prompt's first row its leading positions. -/
theorem before_of (z : Fin 16 → Fin 580 → EReal) (k r : ℕ) (K : Fin 16) (hK : k = K.val) (hr : r < 516) :
    (if h : r < 512 then
      Scalar.select (IntOp.cmpi CmpIPredicate.eq (BitVec.ofNat 32 r) 384#32) (z K 579)
        (Scalar.select (IntOp.cmpi CmpIPredicate.eq (BitVec.ofNat 32 r) 256#32) (z K 578)
          (Scalar.select (IntOp.cmpi CmpIPredicate.eq (BitVec.ofNat 32 r) 128#32) (z K 577)
            (Scalar.select (IntOp.cmpi CmpIPredicate.eq (BitVec.ofNat 32 r) 0#32) (z K 576) (z K ⟨63 + r, by omega⟩))))
    else 0) = before z k (64 + r) := by
  unfold before
  by_cases h : r < 512
  · rw [dif_pos h, if_pos (show 64 + r < 576 by omega), pick r 384 (by omega) (by omega), pick r 256 (by omega) (by omega),
      pick r 128 (by omega) (by omega), pick r 0 (by omega) (by omega)]
    by_cases a3 : r = 384
    · rw [if_pos a3, if_pos (by omega)]
      exact (at_of z _ _ K 579 hK (show _ = 579 by omega)).symm
    rw [if_neg a3]
    by_cases a2 : r = 256
    · rw [if_pos a2, if_pos (by omega)]
      exact (at_of z _ _ K 578 hK (show _ = 578 by omega)).symm
    rw [if_neg a2]
    by_cases a1 : r = 128
    · rw [if_pos a1, if_pos (by omega)]
      exact (at_of z _ _ K 577 hK (show _ = 577 by omega)).symm
    rw [if_neg a1]
    by_cases a0 : r = 0
    · rw [if_pos a0, if_pos (by omega)]
      exact (at_of z _ _ K 576 hK (show _ = 576 by omega)).symm
    rw [if_neg a0, if_neg (by omega)]
    exact (at_of z _ _ K ⟨63 + r, by omega⟩ hK (show _ = 63 + r by omega)).symm
  · rw [dif_neg h, if_neg (by omega)]

/-- What the runs before the prompt and leading rows hold at position 15. -/
theorem prev_15 (x0 x2 : Vec Ideal S16x580x128 .bf16) (r : Fin 516) (q : Fin 128) (i1 i2 i3)
    (h71 : ∀ y : Shape.Idx S1x512x128, 71 - 8 + (y 1).val < 580)
    (h584 : ∀ y : Shape.Idx S1x1x128, 584 - 8 + (y 1).val < 580)
    (h585 : ∀ y : Shape.Idx S1x1x128, 585 - 8 + (y 1).val < 580)
    (h586 : ∀ y : Shape.Idx S1x1x128, 586 - 8 + (y 1).val < 580)
    (h587 : ∀ y : Shape.Idx S1x1x128, 587 - 8 + (y 1).val < 580) :
    k0_pay14 (F := Ideal) (iota Kind.tc S512x128 32 [0] i1)
      (k0_pay11 fun y => k0_pay8 (View.ld x2 (Rect.unit ![15, 0, 0] ![1, 580, 128] i2)) (View.ld x0 (Rect.unit ![15, 0, 0] ![1, 580, 128] i3)) (ix3 0 ⟨71 - 8 + (y 1).val, h71 y⟩ (y 2)))
      (k0_pay12 (iota Kind.tc S512x128 32 [0] i1))
      (k0_pay13 fun y => k0_pay8 (View.ld x2 (Rect.unit ![15, 0, 0] ![1, 580, 128] i2)) (View.ld x0 (Rect.unit ![15, 0, 0] ![1, 580, 128] i3)) (ix3 0 ⟨584 - 8 + (y 1).val, h584 y⟩ (y 2)))
      (fun y => k0_pay8 (View.ld x2 (Rect.unit ![15, 0, 0] ![1, 580, 128] i2)) (View.ld x0 (Rect.unit ![15, 0, 0] ![1, 580, 128] i3)) (ix3 0 ⟨585 - 8 + (y 1).val, h585 y⟩ (y 2)))
      (fun y => k0_pay8 (View.ld x2 (Rect.unit ![15, 0, 0] ![1, 580, 128] i2)) (View.ld x0 (Rect.unit ![15, 0, 0] ![1, 580, 128] i3)) (ix3 0 ⟨586 - 8 + (y 1).val, h586 y⟩ (y 2)))
      (fun y => k0_pay8 (View.ld x2 (Rect.unit ![15, 0, 0] ![1, 580, 128] i2)) (View.ld x0 (Rect.unit ![15, 0, 0] ![1, 580, 128] i3)) (ix3 0 ⟨587 - 8 + (y 1).val, h587 y⟩ (y 2)))
      (ix2 r q) = before (tz x0 x2 q) 15 (64 + r.val) := by
  unfold_payloads
  pointwise [tz]
  exact before_of (tz x0 x2 q) 15 r.val 15 rfl r.isLt

/-- What the runs before the prompt and leading rows hold at position 14. -/
theorem prev_14 (x0 x2 : Vec Ideal S16x580x128 .bf16) (r : Fin 516) (q : Fin 128) (i1 i2 i3)
    (h71 : ∀ y : Shape.Idx S1x512x128, 71 - 8 + (y 1).val < 580)
    (h584 : ∀ y : Shape.Idx S1x1x128, 584 - 8 + (y 1).val < 580)
    (h585 : ∀ y : Shape.Idx S1x1x128, 585 - 8 + (y 1).val < 580)
    (h586 : ∀ y : Shape.Idx S1x1x128, 586 - 8 + (y 1).val < 580)
    (h587 : ∀ y : Shape.Idx S1x1x128, 587 - 8 + (y 1).val < 580) :
    k0_pay10 (F := Ideal) (iota Kind.tc S512x128 32 [0] i1)
      (k0_pay9 fun y => k0_pay7 (View.ld x2 (Rect.unit ![14, 0, 0] ![1, 580, 128] i2)) (View.ld x0 (Rect.unit ![14, 0, 0] ![1, 580, 128] i3)) (ix3 0 ⟨71 - 8 + (y 1).val, h71 y⟩ (y 2)))
      (fun y => k0_pay7 (View.ld x2 (Rect.unit ![14, 0, 0] ![1, 580, 128] i2)) (View.ld x0 (Rect.unit ![14, 0, 0] ![1, 580, 128] i3)) (ix3 0 ⟨584 - 8 + (y 1).val, h584 y⟩ (y 2)))
      (fun y => k0_pay7 (View.ld x2 (Rect.unit ![14, 0, 0] ![1, 580, 128] i2)) (View.ld x0 (Rect.unit ![14, 0, 0] ![1, 580, 128] i3)) (ix3 0 ⟨585 - 8 + (y 1).val, h585 y⟩ (y 2)))
      (fun y => k0_pay7 (View.ld x2 (Rect.unit ![14, 0, 0] ![1, 580, 128] i2)) (View.ld x0 (Rect.unit ![14, 0, 0] ![1, 580, 128] i3)) (ix3 0 ⟨586 - 8 + (y 1).val, h586 y⟩ (y 2)))
      (fun y => k0_pay7 (View.ld x2 (Rect.unit ![14, 0, 0] ![1, 580, 128] i2)) (View.ld x0 (Rect.unit ![14, 0, 0] ![1, 580, 128] i3)) (ix3 0 ⟨587 - 8 + (y 1).val, h587 y⟩ (y 2)))
      (ix2 r q) = before (tz x0 x2 q) 14 (64 + r.val) := by
  unfold_payloads
  pointwise [tz]
  exact before_of (tz x0 x2 q) 14 r.val 14 rfl r.isLt

/-- The other rows' piece at position 0, from what the runs before hold. -/
theorem pay20_at (v3 v5 : FVec Ideal S1x128 .f32) (v58 v90 v98 v102 v103 : FVec Ideal S516x128 .f32) (o : Fin 1) (r : Fin 516) (q : Fin 128)
    (A B : EReal) (hA : v58 (ix2 r q) = A) (hB : v90 (ix2 r q) = B) :
    k0_pay20 v3 v5 v58 v90 v98 v102 v103 (ix3 o r q)
      = v102 (ix2 r q) * (v103 (ix2 r q) * A + v3 (ix2 0 q) * B + v5 (ix2 0 q) * v98 (ix2 r q)) := by
  subst hA hB
  unfold_payloads
  pointwise

/-- The other rows' piece at position 1, from what the runs before hold. -/
theorem pay24_at (v1 v3 v5 : FVec Ideal S1x128 .f32) (v90 : FVec Ideal S516x128 .f32) (v97 v138 : FVec Ideal S580x128 .f32)
    (v139 : Vec Ideal S1x580x128 .bf16) (v146 : Vec Ideal S1x516x128 .bf16) (o : Fin 1) (r : Fin 516) (q : Fin 128)
    (B : EReal) (hB : v90 (ix2 r q) = B) :
    k0_pay24 v1 v3 v5 v90 v97 v138 v139 v146 (ix3 o r q)
      = v146 (ix3 0 r q) * (v1 (ix2 0 q) * B + v3 (ix2 0 q) * v97 (ix2 ⟨64 + r.val, by omega⟩ q)
          + v5 (ix2 0 q) * (v138 (ix2 ⟨64 + r.val, by omega⟩ q) * v139 (ix3 0 ⟨64 + r.val, by omega⟩ q))) := by
  subst hB
  unfold_payloads
  pointwise

section Cases

variable (z : Fin 16 → Fin 580 → EReal) (s : Fin 2 → Fin 2 → Fin 64 → EReal) (w : Fin 3 → EReal) (b : EReal) (t r : ℕ)

/-- Away from a run's first two positions, all three taps are within the row. -/
theorem conv_inner (T T1 T2 : Fin 16) (R : Fin 580) (ht : t = T.val) (hr : r = R.val) (h1 : T1.val + 1 = T.val)
    (h2 : T2.val + 2 = T.val) (hs : r < 64 → 2 ≤ t % 8) :
    conv z s w b t r = b * (w 0 * z T2 R + w 1 * z T1 R + w 2 * z T R) := by
  have e0 := at_of z t r T R ht hr
  have e1 := at_of z (t - 1) r T1 R (by omega) hr
  have e2 := at_of z (t - 2) r T2 R (by omega) hr
  unfold conv lag1 lag2
  by_cases h : r < 64
  · have := hs h
    rw [if_pos h, if_pos h, if_neg (by omega), if_neg (by omega), if_neg (by omega), e0, e1, e2]
  · rw [if_neg h, if_neg h, if_neg (by omega), if_neg (by omega), if_neg (by omega), e0, e1, e2]

/-- At a sample sequence's first position both earlier taps are carried state. -/
theorem conv_sample0 (T : Fin 16) (R : Fin 580) (H : Fin 2) (R' : Fin 64) (ht : t = T.val) (hr : r = R.val) (hr' : r = R'.val)
    (hH : t = 8 * H.val) :
    conv z s w b t r = b * (w 0 * s H 0 R' + w 1 * s H 1 R' + w 2 * z T R) := by
  have e0 := at_of z t r T R ht hr
  have eH : t / 8 = H.val := by omega
  have e1 : state_ s (t / 8) 1 r = s H 1 R' := by rw [eH, hr']; exact dif_pos ⟨H.isLt, by omega, R'.isLt⟩
  have e2 : state_ s (t / 8) 0 r = s H 0 R' := by rw [eH, hr']; exact dif_pos ⟨H.isLt, by omega, R'.isLt⟩
  unfold conv lag1 lag2
  rw [if_pos (by omega), if_pos (by omega), if_pos (by omega), if_pos (by omega), e0, e1, e2]

/-- At a sample sequence's second position the farther tap is carried state. -/
theorem conv_sample1 (T T1 : Fin 16) (R : Fin 580) (H : Fin 2) (R' : Fin 64) (ht : t = T.val) (hr : r = R.val) (hr' : r = R'.val)
    (h1 : T1.val + 1 = T.val) (hH : t = 8 * H.val + 1) :
    conv z s w b t r = b * (w 0 * s H 1 R' + w 1 * z T1 R + w 2 * z T R) := by
  have e0 := at_of z t r T R ht hr
  have e1 := at_of z (t - 1) r T1 R (by omega) hr
  have eH : t / 8 = H.val := by omega
  have e2 : state_ s (t / 8) 1 r = s H 1 R' := by rw [eH, hr']; exact dif_pos ⟨H.isLt, by omega, R'.isLt⟩
  have l1 : lag1 z s t r = z T1 R := by
    unfold lag1
    rw [if_pos (show r < 64 by omega), if_neg (show ¬ t % 8 = 0 by omega), e1]
  have l2 : lag2 z s t r = s H 1 R' := by
    unfold lag2
    rw [if_pos (show r < 64 by omega), if_neg (show ¬ t % 8 = 0 by omega), if_pos (show t % 8 = 1 by omega), e2]
  unfold conv
  rw [l1, l2, e0]

/-- At another row's first position both earlier taps are in the run before. -/
theorem conv_other0 (R : Fin 580) (ht : t = 0) (hr : r = R.val) (h : 64 ≤ r) :
    conv z s w b t r = b * (w 0 * before z 14 r + w 1 * before z 15 r + w 2 * z 0 R) := by
  have e0 := at_of z t r 0 R ht hr
  have l1 : lag1 z s t r = before z 15 r := by
    unfold lag1
    rw [if_neg (show ¬ r < 64 by omega), if_pos ht]
  have l2 : lag2 z s t r = before z 14 r := by
    unfold lag2
    rw [if_neg (show ¬ r < 64 by omega), if_pos ht]
  unfold conv
  rw [l1, l2, e0]

/-- At another row's second position the farther tap is in the run before. -/
theorem conv_other1 (R : Fin 580) (ht : t = 1) (hr : r = R.val) (h : 64 ≤ r) :
    conv z s w b t r = b * (w 0 * before z 15 r + w 1 * z 0 R + w 2 * z 1 R) := by
  have e0 := at_of z t r 1 R ht hr
  have e1 := at_of z (t - 1) r 0 R (show _ = 0 by omega) hr
  have l1 : lag1 z s t r = z 0 R := by
    unfold lag1
    rw [if_neg (show ¬ r < 64 by omega), if_neg (show ¬ t = 0 by omega), e1]
  have l2 : lag2 z s t r = before z 15 r := by
    unfold lag2
    rw [if_neg (show ¬ r < 64 by omega), if_neg (show ¬ t = 0 by omega), if_pos ht]
  unfold conv
  rw [l1, l2, e0]

end Cases

variable (c : Dev nD) (i : grid0.Coords)
    (a1 : Memref sig .tc .vmem S16x580x128 .bf16) (h1 : a1.IsWhole)
    (a2 : Memref sig .tc .vmem S16x580x128 .bf16) (h2 : a2.IsWhole)
    (a3 : Memref sig .tc .vmem S16x580x128 .bf16) (h3 : a3.IsWhole)
    (a4 : Memref sig .tc .vmem S3x128 .f32) (h4 : a4.IsWhole)
    (a5 : Memref sig .tc .vmem S2x2x64x128 .f32) (h5 : a5.IsWhole)
    (a6 : Memref sig .tc .vmem S16x580x128 .bf16) (h6 : a6.IsWhole)
    (a7 : Memref sig .tc .vmem S2x2x64x128 .f32) (h7 : a7.IsWhole)
    (a8 : Memref sig .tc .vmem S2x4x128 .f32) (h8 : a8.IsWhole)
    (a9 : Memref sig .tc .vmem S2x596x128 .f32) (h9 : a9.IsWhole)
    (x0 x1 x2 : Vec Ideal S16x580x128 .bf16) (x3 : Vec Ideal S3x128 .f32) (x4 : Vec Ideal S2x2x64x128 .f32)

/-- The convolution's output block. -/
theorem out_5 (t : Fin 16) (r : Fin 580) (q : Fin 128) :
    out0_A_5 (F := Ideal) c i a1 h1 a2 h2 a3 h3 a4 h4 a5 h5 a6 h6 a7 h7 a8 h8 a9 h9 x0 x1 x2 x3 x4 (ix3 t r q)
      = conv (tz x0 x2 q) (ts x4 q) (fun k => x3 (ix2 k q)) (x1 (ix3 t r q)) t.val r.val := by
  frame_out
  simp (disch := decide) only [scratch_0, scratch_1]
  canon_tiles y e using (View.cover_of_tiledBy _ ![1, 4, 128] (by sl_kernel_rfl) _)
  case piece30 =>
    idx_vars y
    unfold_payloads
    pointwise [tz]
    obtain rfl : q = y2 := Fin.ext e2
    obtain rfl : t = 0 := Fin.ext (show t.val = 0 by omega)
    obtain rfl : r = ⟨y1.val, y1_lt.trans (by decide)⟩ := Fin.ext (show r.val = y1.val by omega)
    exact Eq.symm (conv_sample0 (tz x0 x2 q) (ts x4 q) (fun k => x3 (ix2 k q)) _ _ _ 0 ⟨y1.val, y1_lt.trans (by decide)⟩ 0 y1 rfl rfl rfl (by decide))
  case piece31 =>
    idx_vars y
    refine (pay20_at _ _ _ _ _ _ _ _ _ _ _ _ (prev_14 x0 x2 y1 y2 _ _ _ _ _ _ _ _) (prev_15 x0 x2 y1 y2 _ _ _ _ _ _ _ _)).trans ?_
    unfold_payloads
    pointwise [tz]
    obtain rfl : q = y2 := Fin.ext e2
    obtain rfl : t = 0 := Fin.ext (show t.val = 0 by omega)
    obtain rfl : r = ⟨64 + y1.val, Nat.add_lt_add_left y1_lt 64⟩ := Fin.ext (show r.val = 64 + y1.val by omega)
    exact Eq.symm (conv_other0 (tz x0 x2 q) (ts x4 q) (fun k => x3 (ix2 k q)) _ _ _ ⟨64 + y1.val, Nat.add_lt_add_left y1_lt 64⟩ rfl rfl (show 64 ≤ 64 + y1.val by omega))
  case piece28 =>
    idx_vars y
    unfold_payloads
    pointwise [tz]
    obtain rfl : q = y2 := Fin.ext e2
    obtain rfl : t = 1 := Fin.ext (show t.val = 1 by omega)
    obtain rfl : r = ⟨y1.val, y1_lt.trans (by decide)⟩ := Fin.ext (show r.val = y1.val by omega)
    exact Eq.symm (conv_sample1 (tz x0 x2 q) (ts x4 q) (fun k => x3 (ix2 k q)) _ _ _ 1 0 ⟨y1.val, y1_lt.trans (by decide)⟩ 0 y1 rfl rfl rfl (by decide) (by decide))
  case piece29 =>
    idx_vars y
    refine (pay24_at _ _ _ _ _ _ _ _ _ _ _ _ (prev_15 x0 x2 y1 y2 _ _ _ _ _ _ _ _)).trans ?_
    unfold_payloads
    pointwise [tz]
    obtain rfl : q = y2 := Fin.ext e2
    obtain rfl : t = 1 := Fin.ext (show t.val = 1 by omega)
    obtain rfl : r = ⟨64 + y1.val, Nat.add_lt_add_left y1_lt 64⟩ := Fin.ext (show r.val = 64 + y1.val by omega)
    exact Eq.symm (conv_other1 (tz x0 x2 q) (ts x4 q) (fun k => x3 (ix2 k q)) _ _ _ ⟨64 + y1.val, Nat.add_lt_add_left y1_lt 64⟩ rfl rfl (show 64 ≤ 64 + y1.val by omega))
  case piece26 =>
    idx_vars y
    unfold_payloads
    pointwise [tz]
    obtain rfl : q = y2 := Fin.ext e2
    obtain rfl : t = 2 := Fin.ext (show t.val = 2 by omega)
    obtain rfl : r = ⟨y1.val, y1_lt.trans (by decide)⟩ := Fin.ext (show r.val = y1.val by omega)
    exact Eq.symm (conv_inner (tz x0 x2 q) (ts x4 q) (fun k => x3 (ix2 k q)) _ _ _ 2 1 0 ⟨y1.val, y1_lt.trans (by decide)⟩ rfl rfl (by decide) (by decide) fun _ => by decide)
  case piece27 =>
    idx_vars y
    unfold_payloads
    pointwise [tz]
    obtain rfl : q = y2 := Fin.ext e2
    obtain rfl : t = 2 := Fin.ext (show t.val = 2 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 2 1 0 ⟨64 + y1.val, Nat.add_lt_add_left y1_lt 64⟩ rfl rfl (by decide) (by decide) fun h => absurd h (show ¬ 64 + y1.val < 64 by omega))
  case piece24 =>
    idx_vars y
    unfold_payloads
    pointwise [tz]
    obtain rfl : q = y2 := Fin.ext e2
    obtain rfl : t = 3 := Fin.ext (show t.val = 3 by omega)
    obtain rfl : r = ⟨y1.val, y1_lt.trans (by decide)⟩ := Fin.ext (show r.val = y1.val by omega)
    exact Eq.symm (conv_inner (tz x0 x2 q) (ts x4 q) (fun k => x3 (ix2 k q)) _ _ _ 3 2 1 ⟨y1.val, y1_lt.trans (by decide)⟩ rfl rfl (by decide) (by decide) fun _ => by decide)
  case piece25 =>
    idx_vars y
    unfold_payloads
    pointwise [tz]
    obtain rfl : q = y2 := Fin.ext e2
    obtain rfl : t = 3 := Fin.ext (show t.val = 3 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 3 2 1 ⟨64 + y1.val, Nat.add_lt_add_left y1_lt 64⟩ rfl rfl (by decide) (by decide) fun h => absurd h (show ¬ 64 + y1.val < 64 by omega))
  case piece22 =>
    idx_vars y
    unfold_payloads
    pointwise [tz]
    obtain rfl : q = y2 := Fin.ext e2
    obtain rfl : t = 4 := Fin.ext (show t.val = 4 by omega)
    obtain rfl : r = ⟨y1.val, y1_lt.trans (by decide)⟩ := Fin.ext (show r.val = y1.val by omega)
    exact Eq.symm (conv_inner (tz x0 x2 q) (ts x4 q) (fun k => x3 (ix2 k q)) _ _ _ 4 3 2 ⟨y1.val, y1_lt.trans (by decide)⟩ rfl rfl (by decide) (by decide) fun _ => by decide)
  case piece23 =>
    idx_vars y
    unfold_payloads
    pointwise [tz]
    obtain rfl : q = y2 := Fin.ext e2
    obtain rfl : t = 4 := Fin.ext (show t.val = 4 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 4 3 2 ⟨64 + y1.val, Nat.add_lt_add_left y1_lt 64⟩ rfl rfl (by decide) (by decide) fun h => absurd h (show ¬ 64 + y1.val < 64 by omega))
  case piece20 =>
    idx_vars y
    unfold_payloads
    pointwise [tz]
    obtain rfl : q = y2 := Fin.ext e2
    obtain rfl : t = 5 := Fin.ext (show t.val = 5 by omega)
    obtain rfl : r = ⟨y1.val, y1_lt.trans (by decide)⟩ := Fin.ext (show r.val = y1.val by omega)
    exact Eq.symm (conv_inner (tz x0 x2 q) (ts x4 q) (fun k => x3 (ix2 k q)) _ _ _ 5 4 3 ⟨y1.val, y1_lt.trans (by decide)⟩ rfl rfl (by decide) (by decide) fun _ => by decide)
  case piece21 =>
    idx_vars y
    unfold_payloads
    pointwise [tz]
    obtain rfl : q = y2 := Fin.ext e2
    obtain rfl : t = 5 := Fin.ext (show t.val = 5 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 5 4 3 ⟨64 + y1.val, Nat.add_lt_add_left y1_lt 64⟩ rfl rfl (by decide) (by decide) fun h => absurd h (show ¬ 64 + y1.val < 64 by omega))
  case piece18 =>
    idx_vars y
    unfold_payloads
    pointwise [tz]
    obtain rfl : q = y2 := Fin.ext e2
    obtain rfl : t = 6 := Fin.ext (show t.val = 6 by omega)
    obtain rfl : r = ⟨y1.val, y1_lt.trans (by decide)⟩ := Fin.ext (show r.val = y1.val by omega)
    exact Eq.symm (conv_inner (tz x0 x2 q) (ts x4 q) (fun k => x3 (ix2 k q)) _ _ _ 6 5 4 ⟨y1.val, y1_lt.trans (by decide)⟩ rfl rfl (by decide) (by decide) fun _ => by decide)
  case piece19 =>
    idx_vars y
    unfold_payloads
    pointwise [tz]
    obtain rfl : q = y2 := Fin.ext e2
    obtain rfl : t = 6 := Fin.ext (show t.val = 6 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 6 5 4 ⟨64 + y1.val, Nat.add_lt_add_left y1_lt 64⟩ rfl rfl (by decide) (by decide) fun h => absurd h (show ¬ 64 + y1.val < 64 by omega))
  case piece16 =>
    idx_vars y
    unfold_payloads
    pointwise [tz]
    obtain rfl : q = y2 := Fin.ext e2
    obtain rfl : t = 7 := Fin.ext (show t.val = 7 by omega)
    obtain rfl : r = ⟨y1.val, y1_lt.trans (by decide)⟩ := Fin.ext (show r.val = y1.val by omega)
    exact Eq.symm (conv_inner (tz x0 x2 q) (ts x4 q) (fun k => x3 (ix2 k q)) _ _ _ 7 6 5 ⟨y1.val, y1_lt.trans (by decide)⟩ rfl rfl (by decide) (by decide) fun _ => by decide)
  case piece17 =>
    idx_vars y
    unfold_payloads
    pointwise [tz]
    obtain rfl : q = y2 := Fin.ext e2
    obtain rfl : t = 7 := Fin.ext (show t.val = 7 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 7 6 5 ⟨64 + y1.val, Nat.add_lt_add_left y1_lt 64⟩ rfl rfl (by decide) (by decide) fun h => absurd h (show ¬ 64 + y1.val < 64 by omega))
  case piece14 =>
    idx_vars y
    unfold_payloads
    pointwise [tz]
    obtain rfl : q = y2 := Fin.ext e2
    obtain rfl : t = 8 := Fin.ext (show t.val = 8 by omega)
    obtain rfl : r = ⟨y1.val, y1_lt.trans (by decide)⟩ := Fin.ext (show r.val = y1.val by omega)
    exact Eq.symm (conv_sample0 (tz x0 x2 q) (ts x4 q) (fun k => x3 (ix2 k q)) _ _ _ 8 ⟨y1.val, y1_lt.trans (by decide)⟩ 1 y1 rfl rfl rfl (by decide))
  case piece15 =>
    idx_vars y
    unfold_payloads
    pointwise [tz]
    obtain rfl : q = y2 := Fin.ext e2
    obtain rfl : t = 8 := Fin.ext (show t.val = 8 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 8 7 6 ⟨64 + y1.val, Nat.add_lt_add_left y1_lt 64⟩ rfl rfl (by decide) (by decide) fun h => absurd h (show ¬ 64 + y1.val < 64 by omega))
  case piece12 =>
    idx_vars y
    unfold_payloads
    pointwise [tz]
    obtain rfl : q = y2 := Fin.ext e2
    obtain rfl : t = 9 := Fin.ext (show t.val = 9 by omega)
    obtain rfl : r = ⟨y1.val, y1_lt.trans (by decide)⟩ := Fin.ext (show r.val = y1.val by omega)
    exact Eq.symm (conv_sample1 (tz x0 x2 q) (ts x4 q) (fun k => x3 (ix2 k q)) _ _ _ 9 8 ⟨y1.val, y1_lt.trans (by decide)⟩ 1 y1 rfl rfl rfl (by decide) (by decide))
  case piece13 =>
    idx_vars y
    unfold_payloads
    pointwise [tz]
    obtain rfl : q = y2 := Fin.ext e2
    obtain rfl : t = 9 := Fin.ext (show t.val = 9 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 9 8 7 ⟨64 + y1.val, Nat.add_lt_add_left y1_lt 64⟩ rfl rfl (by decide) (by decide) fun h => absurd h (show ¬ 64 + y1.val < 64 by omega))
  case piece10 =>
    idx_vars y
    unfold_payloads
    pointwise [tz]
    obtain rfl : q = y2 := Fin.ext e2
    obtain rfl : t = 10 := Fin.ext (show t.val = 10 by omega)
    obtain rfl : r = ⟨y1.val, y1_lt.trans (by decide)⟩ := Fin.ext (show r.val = y1.val by omega)
    exact Eq.symm (conv_inner (tz x0 x2 q) (ts x4 q) (fun k => x3 (ix2 k q)) _ _ _ 10 9 8 ⟨y1.val, y1_lt.trans (by decide)⟩ rfl rfl (by decide) (by decide) fun _ => by decide)
  case piece11 =>
    idx_vars y
    unfold_payloads
    pointwise [tz]
    obtain rfl : q = y2 := Fin.ext e2
    obtain rfl : t = 10 := Fin.ext (show t.val = 10 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 10 9 8 ⟨64 + y1.val, Nat.add_lt_add_left y1_lt 64⟩ rfl rfl (by decide) (by decide) fun h => absurd h (show ¬ 64 + y1.val < 64 by omega))
  case piece8 =>
    idx_vars y
    unfold_payloads
    pointwise [tz]
    obtain rfl : q = y2 := Fin.ext e2
    obtain rfl : t = 11 := Fin.ext (show t.val = 11 by omega)
    obtain rfl : r = ⟨y1.val, y1_lt.trans (by decide)⟩ := Fin.ext (show r.val = y1.val by omega)
    exact Eq.symm (conv_inner (tz x0 x2 q) (ts x4 q) (fun k => x3 (ix2 k q)) _ _ _ 11 10 9 ⟨y1.val, y1_lt.trans (by decide)⟩ rfl rfl (by decide) (by decide) fun _ => by decide)
  case piece9 =>
    idx_vars y
    unfold_payloads
    pointwise [tz]
    obtain rfl : q = y2 := Fin.ext e2
    obtain rfl : t = 11 := Fin.ext (show t.val = 11 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 11 10 9 ⟨64 + y1.val, Nat.add_lt_add_left y1_lt 64⟩ rfl rfl (by decide) (by decide) fun h => absurd h (show ¬ 64 + y1.val < 64 by omega))
  case piece6 =>
    idx_vars y
    unfold_payloads
    pointwise [tz]
    obtain rfl : q = y2 := Fin.ext e2
    obtain rfl : t = 12 := Fin.ext (show t.val = 12 by omega)
    obtain rfl : r = ⟨y1.val, y1_lt.trans (by decide)⟩ := Fin.ext (show r.val = y1.val by omega)
    exact Eq.symm (conv_inner (tz x0 x2 q) (ts x4 q) (fun k => x3 (ix2 k q)) _ _ _ 12 11 10 ⟨y1.val, y1_lt.trans (by decide)⟩ rfl rfl (by decide) (by decide) fun _ => by decide)
  case piece7 =>
    idx_vars y
    unfold_payloads
    pointwise [tz]
    obtain rfl : q = y2 := Fin.ext e2
    obtain rfl : t = 12 := Fin.ext (show t.val = 12 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 12 11 10 ⟨64 + y1.val, Nat.add_lt_add_left y1_lt 64⟩ rfl rfl (by decide) (by decide) fun h => absurd h (show ¬ 64 + y1.val < 64 by omega))
  case piece4 =>
    idx_vars y
    unfold_payloads
    pointwise [tz]
    obtain rfl : q = y2 := Fin.ext e2
    obtain rfl : t = 13 := Fin.ext (show t.val = 13 by omega)
    obtain rfl : r = ⟨y1.val, y1_lt.trans (by decide)⟩ := Fin.ext (show r.val = y1.val by omega)
    exact Eq.symm (conv_inner (tz x0 x2 q) (ts x4 q) (fun k => x3 (ix2 k q)) _ _ _ 13 12 11 ⟨y1.val, y1_lt.trans (by decide)⟩ rfl rfl (by decide) (by decide) fun _ => by decide)
  case piece5 =>
    idx_vars y
    unfold_payloads
    pointwise [tz]
    obtain rfl : q = y2 := Fin.ext e2
    obtain rfl : t = 13 := Fin.ext (show t.val = 13 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 13 12 11 ⟨64 + y1.val, Nat.add_lt_add_left y1_lt 64⟩ rfl rfl (by decide) (by decide) fun h => absurd h (show ¬ 64 + y1.val < 64 by omega))
  case piece2 =>
    idx_vars y
    unfold_payloads
    pointwise [tz]
    obtain rfl : q = y2 := Fin.ext e2
    obtain rfl : t = 14 := Fin.ext (show t.val = 14 by omega)
    obtain rfl : r = ⟨y1.val, y1_lt.trans (by decide)⟩ := Fin.ext (show r.val = y1.val by omega)
    exact Eq.symm (conv_inner (tz x0 x2 q) (ts x4 q) (fun k => x3 (ix2 k q)) _ _ _ 14 13 12 ⟨y1.val, y1_lt.trans (by decide)⟩ rfl rfl (by decide) (by decide) fun _ => by decide)
  case piece3 =>
    idx_vars y
    unfold_payloads
    pointwise [tz]
    obtain rfl : q = y2 := Fin.ext e2
    obtain rfl : t = 14 := Fin.ext (show t.val = 14 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 14 13 12 ⟨64 + y1.val, Nat.add_lt_add_left y1_lt 64⟩ rfl rfl (by decide) (by decide) fun h => absurd h (show ¬ 64 + y1.val < 64 by omega))
  case piece0 =>
    idx_vars y
    unfold_payloads
    pointwise [tz]
    obtain rfl : q = y2 := Fin.ext e2
    obtain rfl : t = 15 := Fin.ext (show t.val = 15 by omega)
    obtain rfl : r = ⟨y1.val, y1_lt.trans (by decide)⟩ := Fin.ext (show r.val = y1.val by omega)
    exact Eq.symm (conv_inner (tz x0 x2 q) (ts x4 q) (fun k => x3 (ix2 k q)) _ _ _ 15 14 13 ⟨y1.val, y1_lt.trans (by decide)⟩ rfl rfl (by decide) (by decide) fun _ => by decide)
  case piece1 =>
    idx_vars y
    unfold_payloads
    pointwise [tz]
    obtain rfl : q = y2 := Fin.ext e2
    obtain rfl : t = 15 := Fin.ext (show t.val = 15 by omega)
    obtain rfl : r = ⟨64 + y1.val, Nat.add_lt_add_left y1_lt 64⟩ := Fin.ext (show r.val = 64 + y1.val by omega)
    exact Eq.symm (conv_inner (tz x0 x2 q) (ts x4 q) (fun k => x3 (ix2 k q)) _ _ _ 15 14 13 ⟨64 + y1.val, Nat.add_lt_add_left y1_lt 64⟩ rfl rfl (by decide) (by decide) fun h => absurd h (show ¬ 64 + y1.val < 64 by omega))

end Cert.ConvIdeal.Hand

end
-- ==== Proof.ConvArrays.lean ====
/-
  The short convolution's three results after the run, as functions of the argument arrays: each point works on one tile
  of 128 channels, and the states are laid out by the lines after the launch.
-/
module

public import proofs.«01_k».proof.Proof.ConvRows
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Hand

open Cert.ConvIdeal Cert.ConvIdeal.Gen

/-- The gated input of channel `k`. -/
def GATED (P : Vec Ideal S16x580x16384 .bf16) (k : Fin 2048) (t : Fin 16) (r : Fin 580) : EReal :=
  P (ix3 t r ⟨6144 + k.val, by omega⟩) * P (ix3 t r ⟨2048 + k.val, by omega⟩)

/-- The carried state of channel `k`: a row's two sequences lie one after the other. -/
def STATE (S : Vec Ideal S1x128x2x2048 .f32) (k : Fin 2048) (h a : Fin 2) (r : Fin 64) : EReal :=
  S (ix4 0 ⟨r.val * 2 + h.val, by omega⟩ a k)

/-- The convolution at plane `t`, row `r`, channel `k`. -/
def CONV (P : Vec Ideal S16x580x16384 .bf16) (W : Vec Ideal S1x3x2048 .f32) (S : Vec Ideal S1x128x2x2048 .f32)
    (t : Fin 16) (r : Fin 580) (k : Fin 2048) : EReal :=
  conv (GATED P k) (STATE S k) (fun j => W (ix3 0 j k)) (P (ix3 t r ⟨4096 + k.val, by omega⟩)) t.val r.val

/-- Each window's block index at a point, which is the point's channel tile. -/
theorem idx_in : ∀ t : Fin cfg0.N,
    win0_0.index t = ![0, 0, 16 + t.val] ∧ win0_1.index t = ![0, 0, 32 + t.val] ∧ win0_2.index t = ![0, 0, 48 + t.val]
      ∧ win0_3.index t = ![0, t.val] ∧ win0_4.index t = ![0, 0, 0, t.val]
      ∧ win0_5.index t = ![0, 0, t.val] ∧ win0_6.index t = ![0, 0, 0, t.val] ∧ win0_7.index t = ![0, 0, t.val] := by
  decide +kernel

variable (m : (ℓ : Loc nD τ sig) → Buf (Elt Ideal) ℓ) (c : Dev nD)

/-- The call's arguments on device `c`. -/
abbrev aP : Vec Ideal S16x580x16384 .bf16 := m ((c : Thread nD τ).loc main_arg0)
abbrev aW : Vec Ideal S1x3x2048 .f32 := m ((c : Thread nD τ).loc main_arg1)
abbrev aS : Vec Ideal S1x128x2x2048 .f32 := m ((c : Thread nD τ).loc main_arg2)

/-- A point's number is below the grid's size. -/
theorem lt_N (t : Fin cfg0.N) : t.val < 16 := Nat.lt_of_lt_of_eq t.isLt N_0

/-- The channel a tile's lane `q` is. -/
def ch (t : Fin cfg0.N) (q : Fin 128) : Fin 2048 := ⟨128 * t.val + q.val, by have := lt_N t; omega⟩

/-- The reshaped taps at the region's entry. -/
theorem vW (j : Fin 3) (k : Fin 2048) : (V m c main_v2 : Vec Ideal S3x2048 .f32) (ix2 j k) = aW m c (ix3 0 j k) := by
  unfold V; after_reads_at

/-- The carried states at the region's entry. -/
theorem vS (h a : Fin 2) (r : Fin 64) (k : Fin 2048) :
    (V m c main_v1 : Vec Ideal S2x2x64x2048 .f32) (ix4 h a r k) = aS m c (ix4 0 ⟨r.val * 2 + h.val, by omega⟩ a k) := by
  unfold V; after_reads_at

/-- The blocks a point reads. -/
theorem b0 (t : Fin cfg0.N) (p : Fin 16) (r : Fin 580) (q : Fin 128) :
    (iblk m c 0 t : Vec Ideal S16x580x128 .bf16) (ix3 p r q) = aP m c (ix3 p r ⟨2048 + (ch t q).val, by omega⟩) := by
  unfold aP; rw [← V_main_arg0 m c]
  blk_ext [iblk, idx_in t, ch]

@[inherit_doc b0]
theorem b1 (t : Fin cfg0.N) (p : Fin 16) (r : Fin 580) (q : Fin 128) :
    (iblk m c 1 t : Vec Ideal S16x580x128 .bf16) (ix3 p r q) = aP m c (ix3 p r ⟨4096 + (ch t q).val, by omega⟩) := by
  unfold aP; rw [← V_main_arg0 m c]
  blk_ext [iblk, idx_in t, ch]

@[inherit_doc b0]
theorem b2 (t : Fin cfg0.N) (p : Fin 16) (r : Fin 580) (q : Fin 128) :
    (iblk m c 2 t : Vec Ideal S16x580x128 .bf16) (ix3 p r q) = aP m c (ix3 p r ⟨6144 + (ch t q).val, by omega⟩) := by
  unfold aP; rw [← V_main_arg0 m c]
  blk_ext [iblk, idx_in t, ch]

@[inherit_doc b0]
theorem b3 (t : Fin cfg0.N) (j : Fin 3) (q : Fin 128) :
    (iblk m c 3 t : Vec Ideal S3x128 .f32) (ix2 j q) = aW m c (ix3 0 j (ch t q)) := by
  rw [← vW]
  blk_ext [iblk, idx_in t, ch]

@[inherit_doc b0]
theorem b4 (t : Fin cfg0.N) (h a : Fin 2) (r : Fin 64) (q : Fin 128) :
    (iblk m c 4 t : Vec Ideal S2x2x64x128 .f32) (ix4 h a r q) = aS m c (ix4 0 ⟨r.val * 2 + h.val, by omega⟩ a (ch t q)) := by
  rw [← vS]
  blk_ext [iblk, idx_in t, ch]

/-- A tile's gated inputs and states are the channels'. -/
theorem tz_at (t : Fin cfg0.N) (q : Fin 128) :
    tz (iblk m c 0 t : Vec Ideal S16x580x128 .bf16) (iblk m c 2 t : Vec Ideal S16x580x128 .bf16) q = GATED (aP m c) (ch t q) := by
  funext p r
  unfold tz GATED
  rw [b0, b2]

@[inherit_doc tz_at]
theorem ts_at (t : Fin cfg0.N) (q : Fin 128) : ts (iblk m c 4 t : Vec Ideal S2x2x64x128 .f32) q = STATE (aS m c) (ch t q) := by
  funext h a r
  unfold ts STATE
  rw [b4]

/-- The arrays after the run. -/
def res5 (i : S16x580x2048.Idx) : EReal := CONV (aP m c) (aW m c) (aS m c) (i 0) (i 1) (i 2)
/-- The sample state's array, -/
def arr6 (i : S2x2x64x2048.Idx) : EReal := at_ (GATED (aP m c) (i 3)) (8 * (i 0).val + (i 1).val + 6) (i 2).val
/-- and the prompt state's. -/
def arr7 (i : S2x4x2048.Idx) : EReal := at_ (GATED (aP m c) (i 2)) (14 + (i 0).val) (191 + 128 * (i 1).val)

/-- What a point leaves in its three blocks. -/
theorem at_5 (t : Fin cfg0.N) (p : Fin 16) (r : Fin 580) (q : Fin 128) :
    ((outsAt0 m c t).1 : Vec Ideal S16x580x128 .bf16) (ix3 p r q) = CONV (aP m c) (aW m c) (aS m c) p r (ch t q) := by
  unfold outsAt0
  dsimp only
  refine (out_5 _ _ _ _ _ _ _ _ _ _ _ _ _ _ _ _ _ _ _ _ _ _ _ _ _ p r q).trans ?_
  unfold CONV
  rw [tz_at, ts_at, b1]
  simp only [b3]

@[inherit_doc at_5]
theorem at_6 (t : Fin cfg0.N) (h a : Fin 2) (r : Fin 64) (q : Fin 128) :
    ((outsAt0 m c t).2.1 : Vec Ideal S2x2x64x128 .f32) (ix4 h a r q) = at_ (GATED (aP m c) (ch t q)) (8 * h.val + a.val + 6) r.val := by
  unfold outsAt0
  dsimp only
  refine (out_6 _ _ _ _ _ _ _ _ _ _ _ _ _ _ _ _ _ _ _ _ _ _ _ _ _ h a r q).trans ?_
  rw [tz_at]

@[inherit_doc at_5]
theorem at_7 (t : Fin cfg0.N) (a : Fin 2) (n : Fin 4) (q : Fin 128) :
    ((outsAt0 m c t).2.2 : Vec Ideal S2x4x128 .f32) (ix3 a n q) = at_ (GATED (aP m c) (ch t q)) (14 + a.val) (191 + 128 * n.val) := by
  unfold outsAt0
  dsimp only
  refine (out_7 _ _ _ _ _ _ _ _ _ _ _ _ _ _ _ _ _ _ _ _ _ _ _ _ _ a n q).trans ?_
  rw [tz_at]

/-- What a point writes back of each result is what it leaves in the result's block. -/
theorem written5 (t : Fin cfg0.N) : (dats m 0 c).flushed 5 t = (cfg0.win 5).cut (grid0.coords t) (outsAt0 m c t).1 := by
  show (cfg0.win 5).cut (grid0.coords t) ((dats m 0 c).after 5 t) = _
  rw [after0_5]

@[inherit_doc written5]
theorem written6 (t : Fin cfg0.N) : (dats m 0 c).flushed 6 t = (cfg0.win 6).cut (grid0.coords t) (outsAt0 m c t).2.1 := by
  show (cfg0.win 6).cut (grid0.coords t) ((dats m 0 c).after 6 t) = _
  rw [after0_6]

@[inherit_doc written5]
theorem written7 (t : Fin cfg0.N) : (dats m 0 c).flushed 7 t = (cfg0.win 7).cut (grid0.coords t) (outsAt0 m c t).2.2 := by
  show (cfg0.win 7).cut (grid0.coords t) ((dats m 0 c).after 7 t) = _
  rw [after0_7]

end Cert.ConvIdeal.Hand

end
-- ==== Proof.ConvEnd.lean ====
/-
  The short convolution's results when the program ends: its tiles cover the arrays, and the lines after the launch lay
  the two states out.
-/
module

public import proofs.«01_k».proof.Proof.ConvArrays

@[expose] public section

set_option maxRecDepth 16384

noncomputable section

open Idealize.ShloMosaic Idealize.ShloMosaic.TcCoe Idealize.SL.Sem
open Idealize.ShloMosaic.Pipeline (Dat)

namespace Cert.ConvIdeal.Hand

open Cert.ConvIdeal Cert.ConvIdeal.Gen

variable (m : (ℓ : Loc nD τ sig) → Buf (Elt Ideal) ℓ) (c : Dev nD)

/-- The convolution's output is covered by the points' tiles, -/
theorem final_5 : (dats m 0 c).arrAt 5 cfg0.N = res5 m c := by
  refine (dats m 0 c).arrAt_eq_of_covers 5 _ (by decide +kernel) fun t hf y => ?_
  blk_simp [Dat.flushed]
  have hl := lt_N t
  rw [after0_5]
  idx_vars y
  refine (at_5 m c t y0 y1 y2).trans ?_
  unfold res5 ch
  congr 1 <;> refine Fin.ext ?_ <;> blk_simp [idx_in t] <;> (try dsimp only) <;> omega

/-- as is the sample state -/
theorem final_6 : (dats m 0 c).arrAt 6 cfg0.N = arr6 m c := by
  refine (dats m 0 c).arrAt_eq_of_covers 6 _ (by decide +kernel) fun t hf y => ?_
  blk_simp [Dat.flushed]
  have hl := lt_N t
  rw [after0_6]
  idx_vars y
  refine (at_6 m c t y0 y1 y2 y3).trans ?_
  unfold arr6 ch
  congr 2 <;> (try refine Fin.ext ?_) <;> blk_simp [idx_in t] <;> (try dsimp only) <;> omega

/-- and the prompt state. -/
theorem final_7 : (dats m 0 c).arrAt 7 cfg0.N = arr7 m c := by
  refine (dats m 0 c).arrAt_eq_of_covers 7 _ (by decide +kernel) fun t hf y => ?_
  blk_simp [Dat.flushed]
  have hl := lt_N t
  rw [after0_7]
  idx_vars y
  refine (at_7 m c t y0 y1 y2).trans ?_
  unfold arr7 ch
  congr 2 <;> (try refine Fin.ext ?_) <;> blk_simp [idx_in t] <;> (try dsimp only) <;> omega

/-- The states as the lines after the launch lay them out. -/
def resP (i : S1x4x2x2048.Idx) : EReal :=
  at_ (GATED (aP m c) (i 3)) (14 + (i 2).val) (191 + 128 * (i 1).val)

@[inherit_doc resP]
def resS (i : S1x128x2x2048.Idx) : EReal :=
  at_ (GATED (aP m c) (i 3)) (8 * ((i 1).val % 2) + (i 2).val + 6) ((i 1).val / 2)

/-- A window's array when the lines after the launch begin. -/
theorem exit (w : Fin 8) :
    Pipeline.withArrays spec0 c (V0 m c) (fun w => (dats m 0 c).arrAt w cfg0.N) (Proc.devRef .tc (Pipeline.arrRef spec0 w))
      = (dats m 0 c).arrAt w cfg0.N :=
  (dats m 0 c).withArrays_arrAt sharedIn0 (V0 m c) (A_eq m c) w

/-- The prompt state at the end. -/
theorem tail_P : Pipeline.afterTail₀ cfgs (dats m) 0 (V0 m) [hostOps1] c main_v5 = resP m c := by
  unfold Pipeline.afterTail₀
  funext i
  idx_vars i
  after_reads_at
  refine (congrFun (exit m c 7) _).trans ?_
  rw [final_7]
  rfl

/-- The sample state at the end. -/
theorem tail_S : Pipeline.afterTail₀ cfgs (dats m) 0 (V0 m) [hostOps1] c main_v7 = resS m c := by
  unfold Pipeline.afterTail₀
  funext i
  idx_vars i
  after_reads_at
  refine (congrFun (exit m c 6) _).trans ?_
  rw [final_6]
  rfl

end Cert.ConvIdeal.Hand

end
-- ==== Proof.ConvReference.lean ====
/-
  What the short convolution's reference computes, element by element: the padded gated sequences, and the convolution
  over them read at the layout's planes and rows.
-/
module

public import proofs.«01_k».proof.Proof.ConvEnd
public import proofs.«01_k».proof.Proof.Gen.ConvRefIdeal.Run
public import proofs.«01_k».proof.Proof.Gen.ConvRefIdeal.Read

@[expose] public section

set_option maxRecDepth 16384

noncomputable section

open Idealize.ShloMosaic Idealize.ShloMosaic.TcCoe Idealize.SL.Sem

namespace Cert.ConvRefIdeal.Hand

open Cert.ConvRefIdeal Cert.ConvRefIdeal.Gen Cert.ConvRefIdeal.Read
open Cert.ConvIdeal.Hand (at_ state_ before lag1 lag2 conv at_of GATED STATE CONV)

variable (P : Vec Ideal S16x580x16384 .bf16) (W : Vec Ideal S1x3x2048 .f32) (S : Vec Ideal S1x128x2x2048 .f32)

/-- Prompt `n`'s gated sequence, two zeros first, then the leading positions, then the prompt's own. -/
def ZP (k : Fin 2048) (n s : ℕ) : EReal :=
  if s < 2 then 0 else if s < 18 then at_ (GATED P k) (s - 2) (576 + n)
  else at_ (GATED P k) ((s - 18) % 16) (64 + 128 * n + (s - 18) / 16)

/-- Sample `n`'s gated sequence, its carried state first. -/
def ZS (k : Fin 2048) (n s : ℕ) : EReal :=
  if s < 2 then state_ (STATE S k) (n % 2) s (n / 2) else at_ (GATED P k) (8 * (n % 2) + s - 2) (n / 2)

/-- The samples' sequences at the layout's planes and rows, two positions back, -/
theorem smp_0 (k : Fin 2048) (t r : ℕ) (ht : t < 16) (hr : r < 64) :
    ZS P S k (r * 2 + t / 8) (t % 8) = lag2 (GATED P k) (STATE S k) t r := by
  unfold ZS lag2
  rw [if_pos hr, show (r * 2 + t / 8) % 2 = t / 8 by omega, show (r * 2 + t / 8) / 2 = r by omega]
  split_ifs <;> first | omega | (congr 1; omega) | (congr 1) | skip

/-- one back, -/
theorem smp_1 (k : Fin 2048) (t r : ℕ) (ht : t < 16) (hr : r < 64) :
    ZS P S k (r * 2 + t / 8) (t % 8 + 1) = lag1 (GATED P k) (STATE S k) t r := by
  unfold ZS lag1
  rw [if_pos hr, show (r * 2 + t / 8) % 2 = t / 8 by omega, show (r * 2 + t / 8) / 2 = r by omega]
  split_ifs <;> first | omega | (congr 1; omega) | skip

/-- and at the position. -/
theorem smp_2 (k : Fin 2048) (t r : ℕ) (ht : t < 16) (hr : r < 64) :
    ZS P S k (r * 2 + t / 8) (t % 8 + 2) = at_ (GATED P k) t r := by
  unfold ZS
  rw [show (r * 2 + t / 8) % 2 = t / 8 by omega, show (r * 2 + t / 8) / 2 = r by omega]
  split_ifs <;> first | omega | (congr 1; omega) | skip

/-- The prompts' own positions, two back, -/
theorem own_0 (k : Fin 2048) (t r : ℕ) (ht : t < 16) (hr : 64 ≤ r) (hr' : r < 576) :
    ZP P k ((r - 64) / 128) (16 + ((r - 64) % 128 * 16 + t)) = lag2 (GATED P k) (STATE S k) t r := by
  unfold ZP lag2 before
  rw [if_neg (show ¬r < 64 by omega), if_pos hr']
  split_ifs <;> first | omega | (congr 1 <;> omega) | skip

/-- one back, -/
theorem own_1 (k : Fin 2048) (t r : ℕ) (ht : t < 16) (hr : 64 ≤ r) (hr' : r < 576) :
    ZP P k ((r - 64) / 128) (16 + ((r - 64) % 128 * 16 + t) + 1) = lag1 (GATED P k) (STATE S k) t r := by
  unfold ZP lag1 before
  rw [if_neg (show ¬r < 64 by omega), if_pos hr']
  split_ifs <;> first | omega | (congr 1 <;> omega) | skip

/-- and at the position. -/
theorem own_2 (k : Fin 2048) (t r : ℕ) (ht : t < 16) (hr : 64 ≤ r) (hr' : r < 576) :
    ZP P k ((r - 64) / 128) (16 + ((r - 64) % 128 * 16 + t) + 2) = at_ (GATED P k) t r := by
  unfold ZP
  split_ifs <;> first | omega | (congr 1 <;> omega) | skip

/-- The leading positions, two back, -/
theorem lead_0 (k : Fin 2048) (t r : ℕ) (ht : t < 16) (hr : 576 ≤ r) (hr' : r < 580) :
    ZP P k (r - 64 - 512) t = lag2 (GATED P k) (STATE S k) t r := by
  unfold ZP lag2 before
  rw [if_neg (show ¬r < 64 by omega), if_neg (show ¬r < 576 by omega)]
  split_ifs <;> first | omega | rfl | (congr 1 <;> omega) | skip

/-- one back, -/
theorem lead_1 (k : Fin 2048) (t r : ℕ) (ht : t < 16) (hr : 576 ≤ r) (hr' : r < 580) :
    ZP P k (r - 64 - 512) (t + 1) = lag1 (GATED P k) (STATE S k) t r := by
  unfold ZP lag1 before
  rw [if_neg (show ¬r < 64 by omega), if_neg (show ¬r < 576 by omega)]
  split_ifs <;> first | omega | rfl | (congr 1 <;> omega) | skip

/-- and at the position. -/
theorem lead_2 (k : Fin 2048) (t r : ℕ) (ht : t < 16) (hr : 576 ≤ r) (hr' : r < 580) :
    ZP P k (r - 64 - 512) (t + 2) = at_ (GATED P k) t r := by
  unfold ZP
  split_ifs <;> first | omega | (congr 1 <;> omega) | skip

/-- A prompt's leading positions, -/
theorem lead_apply (n : Fin 4) (s : Fin 2064) (q : Fin 16384) (h : s.val < 16) :
    val_main_v7 (F := Ideal) P (ix3 n s q) = P (ix3 ⟨s.val, h⟩ ⟨576 + n.val, by omega⟩ q) := by
  unfold val_main_v7 val_main_v6 val_main_v5 val_main_v4 val_main_v1 val_main_v0
  pointwise
  rw [dif_pos h]

/-- and its own. -/
theorem own_apply (n : Fin 4) (s : Fin 2064) (q : Fin 16384) (h : 16 ≤ s.val) :
    val_main_v7 (F := Ideal) P (ix3 n s q)
      = P (ix3 ⟨(s.val - 16) % 16, by omega⟩ ⟨64 + 128 * n.val + (s.val - 16) / 16, by omega⟩ q) := by
  unfold val_main_v7 val_main_v6 val_main_v5 val_main_v4 val_main_v1 val_main_v0
  pointwise
  rw [dif_neg (show ¬s.val < 16 by omega)]
  congr 2; refine Fin.ext ?_; dsimp only; omega

/-- The prompts' padded sequences. -/
theorem v14_apply (n : Fin 4) (s : Fin 2066) (k : Fin 2048) : val_main_v14 (F := Ideal) P (ix3 n s k) = ZP P k n.val s.val := by
  unfold val_main_v14 val_main_v13 val_main_v11 val_main_cst val_main_v10 val_main_v8
  pointwise
  unfold ZP
  rcases Nat.lt_or_ge s.val 2 with h | h
  · rw [dif_pos h, if_pos h]
  · rw [dif_neg (show ¬s.val < 2 by omega), if_neg (show ¬s.val < 2 by omega)]
    rcases Nat.lt_or_ge s.val 18 with h' | h'
    · have hs : (⟨s.val - 2, by omega⟩ : Fin 2064).val < 16 := by dsimp only; omega
      rw [if_pos h', lead_apply P n _ _ hs, lead_apply P n _ _ hs]
      exact (at_of (GATED P k) (s.val - 2) (576 + n.val) ⟨s.val - 2, hs⟩ ⟨576 + n.val, by omega⟩ rfl rfl).symm
    · have hs : 16 ≤ (⟨s.val - 2, by omega⟩ : Fin 2064).val := by dsimp only; omega
      rw [if_neg (show ¬s.val < 18 by omega), own_apply P n _ _ hs, own_apply P n _ _ hs]
      exact (at_of (GATED P k) ((s.val - 18) % 16) (64 + 128 * n.val + (s.val - 18) / 16) ⟨(s.val - 2 - 16) % 16, by omega⟩ ⟨64 + 128 * n.val + (s.val - 2 - 16) / 16, by omega⟩
        (by dsimp only; omega) (by dsimp only; omega)).symm

/-- The samples' padded sequences. -/
theorem v43_apply (n : Fin 128) (s : Fin 10) (k : Fin 2048) : val_main_v43 (F := Ideal) P S (ix3 n s k) = ZS P S k n.val s.val := by
  unfold val_main_v43 val_main_v42 val_main_v40 val_main_v39 val_main_v37 val_main_v3 val_main_v2 val_main_v1 val_main_v0
  pointwise
  unfold ZS
  rcases Nat.lt_or_ge s.val 2 with h | h
  · rw [dif_pos h, if_pos h]
    unfold state_ STATE
    rw [dif_pos (show n.val % 2 < 2 ∧ s.val < 2 ∧ n.val / 2 < 64 by omega)]
    congr 2; refine Fin.ext ?_; dsimp only; omega
  · rw [dif_neg (show ¬s.val < 2 by omega), if_neg (show ¬s.val < 2 by omega)]
    exact (at_of (GATED P k) (8 * (n.val % 2) + s.val - 2) (n.val / 2) ⟨n.val % 2 * 8 + (s.val - 2), by omega⟩ ⟨n.val / 2, by omega⟩ (by dsimp only; omega) rfl).symm

/-- The prompts' convolution. -/
theorem v35_apply (n : Fin 4) (s : Fin 2064) (k : Fin 2048) :
    val_main_v35 (F := Ideal) P W (ix3 n s k)
      = val_main_v7 (F := Ideal) P (ix3 n s ⟨4096 + k.val, by omega⟩)
        * (W (ix3 0 0 k) * ZP P k n.val s.val + W (ix3 0 1 k) * ZP P k n.val (s.val + 1)
          + W (ix3 0 2 k) * ZP P k n.val (s.val + 2)) := by
  unfold val_main_v35 val_main_v34 val_main_v33 val_main_v32 val_main_v31 val_main_v30 val_main_v29 val_main_v28 val_main_v27
    val_main_v26 val_main_v25 val_main_v24 val_main_v23 val_main_v22 val_main_v21 val_main_v20 val_main_v19 val_main_v18
    val_main_v17 val_main_v16 val_main_v15 val_main_v12 val_main_v9
  pointwise [v14_apply]
  rw [Nat.add_comm 1 s.val, Nat.add_comm 2 s.val]

/-- The samples' convolution. -/
theorem v64_apply (n : Fin 128) (s : Fin 8) (k : Fin 2048) :
    val_main_v64 (F := Ideal) P W S (ix3 n s k)
      = P (ix3 ⟨8 * (n.val % 2) + s.val, by omega⟩ ⟨n.val / 2, by omega⟩ ⟨4096 + k.val, by omega⟩)
        * (W (ix3 0 0 k) * ZS P S k n.val s.val + W (ix3 0 1 k) * ZS P S k n.val (s.val + 1)
          + W (ix3 0 2 k) * ZS P S k n.val (s.val + 2)) := by
  unfold val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47
    val_main_v46 val_main_v45 val_main_v44 val_main_v41 val_main_v38 val_main_v3 val_main_v2 val_main_v1 val_main_v0
  pointwise [v43_apply]
  rw [Nat.add_comm 1 s.val, Nat.add_comm 2 s.val]
  congr 3; refine Fin.ext ?_; dsimp only; omega

/-- The prompt state. -/
theorem resP_apply (i : S1x4x2x2048.Idx) :
    val_main_v73 (F := Ideal) P i = at_ (GATED P (i 3)) (14 + (i 2).val) (191 + 128 * (i 1).val) := by
  idx_vars i
  unfold val_main_v73 val_main_v36
  pointwise [v14_apply, ZP]
  rw [if_neg (show ¬2064 + i2.val < 2 by omega), if_neg (show ¬2064 + i2.val < 18 by omega)]
  congr 1 <;> omega

/-- The sample state. -/
theorem resS_apply (i : S1x128x2x2048.Idx) :
    val_main_v74 (F := Ideal) P S i = at_ (GATED P (i 3)) (8 * ((i 1).val % 2) + (i 2).val + 6) ((i 1).val / 2) := by
  idx_vars i
  unfold val_main_v74 val_main_v65
  pointwise [v43_apply, ZS]
  rw [if_neg (show ¬8 + i2.val < 2 by omega)]
  congr 1; omega

/-- The output's rows: the samples', the prompts' own, and the leading positions'. -/
theorem v72_apply (p : Fin 16) (r : Fin 580) (k : Fin 2048) : val_main_v72 (F := Ideal) P W S (ix3 p r k) = CONV P W S p r k := by
  unfold val_main_v72 val_main_v71 val_main_v70 val_main_v69 val_main_v68 val_main_v67 val_main_v66
  pointwise
  unfold CONV conv
  rcases Nat.lt_or_ge r.val 64 with h | h
  · rw [dif_pos h, v64_apply]
    rw [smp_0 P S k p.val r.val p.isLt h, smp_1 P S k p.val r.val p.isLt h, smp_2 P S k p.val r.val p.isLt h]
    congr 3 <;> refine Fin.ext ?_ <;> dsimp only <;> omega
  · rw [dif_neg (show ¬r.val < 64 by omega)]
    rcases Nat.lt_or_ge r.val 576 with h' | h'
    · rw [dif_pos (show r.val - 64 < 512 by omega), v35_apply, own_apply P _ _ _ (by dsimp only; omega)]
      rw [own_0 P S k p.val r.val p.isLt h h', own_1 P S k p.val r.val p.isLt h h', own_2 P k p.val r.val p.isLt h h']
      congr 3 <;> refine Fin.ext ?_ <;> dsimp only <;> omega
    · rw [dif_neg (show ¬r.val - 64 < 512 by omega), v35_apply, lead_apply P _ _ _ p.isLt]
      rw [lead_0 P S k p.val r.val p.isLt h' r.isLt, lead_1 P S k p.val r.val p.isLt h' r.isLt, lead_2 P k p.val r.val p.isLt h' r.isLt]
      congr 3; refine Fin.ext ?_; dsimp only; omega

end Cert.ConvRefIdeal.Hand

end
-- ==== Proof.ConvClaims.lean ====
/-
  The short convolution's claims: its frames, and that the ideal kernel computes the reference's three results.
-/
module

public import proofs.«01_k».proof.Defs
public import proofs.«01_k».proof.Proof.ConvReference
public import proofs.«01_k».proof.Proof.Gen.Conv.Frame

@[expose] public section

set_option maxRecDepth 16384

noncomputable section

open Idealize.ShloMosaic Idealize.ShloMosaic.TcCoe Idealize.SL.Sem

namespace Cert.ConvIdeal.Hand

open Cert.ConvIdeal Cert.ConvIdeal.Gen

/-- What a run of the ideal kernel leaves in its results. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = res5 m c
      ∧ r.2.mem ((c.tc : Thread nD τ).loc main_v5) = resP m c
      ∧ r.2.mem ((c.tc : Thread nD τ).loc main_v7) = resS m c) :=
  (θ_run defs _ _).mono (fun _ h c =>
    ⟨((h c).1 5).trans (final_5 m c),
      ((h c).2 main_v5 (Pipeline.mem_restRefs_of main_v5 (by decide) (by decide))).trans (tail_P m c),
      ((h c).2 main_v7 (Pipeline.mem_restRefs_of main_v7 (by decide) (by decide))).trans (tail_S m c)⟩) (run_main m ρ)

end Cert.ConvIdeal.Hand

namespace Cert.Proof.ConvClaims

/-- The kernel's frame: its arguments unchanged, its counters at zero. -/
theorem frame : Cert.quiescent_Conv := fun m ρ _ => Cert.Conv.Gen.frame m ρ

/-- The same of its ideal form. -/
theorem frameIdeal : Cert.quiescent_ConvIdeal := fun m ρ _ => Cert.ConvIdeal.Gen.frame m ρ

/-- The same of the reference, which declares no counter. -/
theorem frameRef : Cert.quiescent_ConvRefIdeal := fun m ρ _ =>
  (θ_run Cert.ConvRefIdeal.defs _ _).mono
    (fun r h => ⟨fun c => (h c).2.2.2, sem_eq_zero_of_no_sems (by decide) r.2⟩)
    (Cert.ConvRefIdeal.Value.run (F := Ideal) m ρ)

open Cert.ConvIdeal.Hand Cert.ConvRefIdeal.Hand Cert.ConvRefIdeal.Read in
/-- The results of the ideal kernel are the reference's, over the extended reals. -/
theorem algebraic : Cert.algebraic_ConvIdeal_ConvRefIdeal := by
  intro m ρ m' ρ' _ hagree
  refine ⟨fun c => res5 m c, fun c => resP m c, fun c => resS m c, ?_, ?_⟩
  · exact (θ_run Cert.ConvIdeal.defs _ _).mono
      (fun _ h c => ⟨(h.1 c).1, (h.1 c).2.1, (h.1 c).2.2, (h.2 c)⟩)
      (θ_run_and (run_results m ρ) (Cert.ConvIdeal.Gen.unchanged m ρ))
  · refine (θ_run Cert.ConvRefIdeal.defs _ _).mono
      (fun _ h c => ⟨(h c).1.trans ?_, (h c).2.1.trans ?_, (h c).2.2.1.trans ?_, (h c).2.2.2⟩)
      (Cert.ConvRefIdeal.Value.run (F := Ideal) m' ρ')
    all_goals obtain ⟨e0, e1, e2⟩ := hagree c
    · refine (val_main_v72_eq m' c).trans ?_
      rw [e0, e1, e2]
      refine funext fun i => ?_
      idx_vars i
      exact v72_apply _ _ _ i0 i1 i2
    · rw [e0]
      exact (val_main_v73_eq _).trans (funext fun i => resP_apply _ i)
    · rw [e0, e2]
      exact (val_main_v74_eq _ _).trans (funext fun i => resS_apply _ _ i)

end Cert.Proof.ConvClaims

end
-- ==== Proof.MergeStep.lean ====
/-
  One grid point of the merge: what the body leaves in its output block, and in the three scratch buffers that keep the
  rounded weight tiles, element by element over the extended reals.
-/
module

public import proofs.«01_k».proof.Proof.Gen.MergeIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.MergeIdeal.Hand

open Cert.MergeIdeal Cert.MergeIdeal.Gen

/-- One element of the merge of a recurrence row `y`, a convolution row `z`, their two gates and the three weight columns. -/
def mix (y z : Fin 2048 → EReal) (ga gb : EReal) (wv wg wc : Fin 2048 → EReal) : EReal :=
  Ideal.logistic ga * ((∑ l, y l * wv l) * Ideal.logistic (∑ l, y l * wg l)) + Ideal.logistic gb * ∑ l, z l * wc l

variable (c : Dev nD) (i : grid0.Coords)
    (a2 : Memref sig .tc .vmem S1x576x2048 .bf16) (h2 : a2.IsWhole)
    (a3 : Memref sig .tc .vmem S1x576x2048 .bf16) (h3 : a3.IsWhole)
    (a4 : Memref sig .tc .vmem S1x576x512 .bf16) (h4 : a4.IsWhole)
    (a5 : Memref sig .tc .vmem S1x576x512 .bf16) (h5 : a5.IsWhole)
    (a6 : Memref sig .tc .vmem S2048x512 .f32) (h6 : a6.IsWhole)
    (a7 : Memref sig .tc .vmem S2048x512 .f32) (h7 : a7.IsWhole)
    (a8 : Memref sig .tc .vmem S2048x512 .f32) (h8 : a8.IsWhole)
    (a9 : Memref sig .tc .vmem S1x576x512 .bf16) (h9 : a9.IsWhole)
    (a10 : Memref sig .tc .vmem S2048x512 .bf16) (h10 : a10.IsWhole)
    (a11 : Memref sig .tc .vmem S2048x512 .bf16) (h11 : a11.IsWhole)
    (a12 : Memref sig .tc .vmem S2048x512 .bf16) (h12 : a12.IsWhole)
    (x0 x1 : Vec Ideal S1x576x2048 .bf16) (x2 x3 : Vec Ideal S1x576x512 .bf16) (x4 x5 x6 : Vec Ideal S2048x512 .f32)
    (xs0 xs1 xs2 : Vec Ideal S2048x512 .bf16)

/-- The first point of a column tile multiplies by the tiles it was just handed. -/
theorem out_A (hc0 : cond0_0 i) (r : Fin 576) (q : Fin 512) :
    out0_A_7 (F := Ideal) c i a2 h2 a3 h3 a4 h4 a5 h5 a6 h6 a7 h7 a8 h8 a9 h9 a10 h10 a11 h11 a12 h12 hc0 x0 x1 x2 x3 x4 x5 x6 (ix3 0 r q)
      = mix (fun l => x0 (ix3 0 r l)) (fun l => x1 (ix3 0 r l)) (x2 (ix3 0 r q)) (x3 (ix3 0 r q))
          (fun l => x4 (ix2 l q)) (fun l => x5 (ix2 l q)) (fun l => x6 (ix2 l q)) := by
  frame_open
  simp (disch := decide) only [↓ View.readCov_skip, ↓ View.readCov_cons_toLoadRect, ↓ View.readCov_fill]
  frame_out
  unfold_payloads
  pointwise [mix]

/-- A later point multiplies by the tiles kept in scratch. -/
theorem out_B (hc0 : ¬cond0_0 i) (r : Fin 576) (q : Fin 512) :
    out0_B_7 (F := Ideal) c i a2 h2 a3 h3 a4 h4 a5 h5 a6 h6 a7 h7 a8 h8 a9 h9 a10 h10 a11 h11 a12 h12 hc0 x0 x1 x2 x3 x4 x5 x6 xs0 xs1 xs2 (ix3 0 r q)
      = mix (fun l => x0 (ix3 0 r l)) (fun l => x1 (ix3 0 r l)) (x2 (ix3 0 r q)) (x3 (ix3 0 r q))
          (fun l => xs0 (ix2 l q)) (fun l => xs1 (ix2 l q)) (fun l => xs2 (ix2 l q)) := by
  frame_out
  unfold_payloads
  pointwise [mix]

/-- The first point keeps tile 0; -/
theorem keep_A_0 (hc0 : cond0_0 i) (l : Fin 2048) (q : Fin 512) :
    sout0_A_0 (F := Ideal) c i a2 h2 a3 h3 a4 h4 a5 h5 a6 h6 a7 h7 a8 h8 a9 h9 a10 h10 a11 h11 a12 h12 hc0 x0 x1 x2 x3 x4 x5 x6 (ix2 l q) = x4 (ix2 l q) := by
  frame_out
  unfold_payloads
  pointwise

/-- a later point leaves it. -/
theorem keep_B_0 (hc0 : ¬cond0_0 i) (l : Fin 2048) (q : Fin 512) :
    sout0_B_0 (F := Ideal) c i a2 h2 a3 h3 a4 h4 a5 h5 a6 h6 a7 h7 a8 h8 a9 h9 a10 h10 a11 h11 a12 h12 hc0 x0 x1 x2 x3 x4 x5 x6 xs0 xs1 xs2 (ix2 l q) = xs0 (ix2 l q) := by
  rfl

/-- The first point keeps tile 1; -/
theorem keep_A_1 (hc0 : cond0_0 i) (l : Fin 2048) (q : Fin 512) :
    sout0_A_1 (F := Ideal) c i a2 h2 a3 h3 a4 h4 a5 h5 a6 h6 a7 h7 a8 h8 a9 h9 a10 h10 a11 h11 a12 h12 hc0 x0 x1 x2 x3 x4 x5 x6 (ix2 l q) = x5 (ix2 l q) := by
  frame_out
  unfold_payloads
  pointwise

/-- a later point leaves it. -/
theorem keep_B_1 (hc0 : ¬cond0_0 i) (l : Fin 2048) (q : Fin 512) :
    sout0_B_1 (F := Ideal) c i a2 h2 a3 h3 a4 h4 a5 h5 a6 h6 a7 h7 a8 h8 a9 h9 a10 h10 a11 h11 a12 h12 hc0 x0 x1 x2 x3 x4 x5 x6 xs0 xs1 xs2 (ix2 l q) = xs1 (ix2 l q) := by
  rfl

/-- The first point keeps tile 2; -/
theorem keep_A_2 (hc0 : cond0_0 i) (l : Fin 2048) (q : Fin 512) :
    sout0_A_2 (F := Ideal) c i a2 h2 a3 h3 a4 h4 a5 h5 a6 h6 a7 h7 a8 h8 a9 h9 a10 h10 a11 h11 a12 h12 hc0 x0 x1 x2 x3 x4 x5 x6 (ix2 l q) = x6 (ix2 l q) := by
  frame_out
  unfold_payloads
  pointwise

/-- a later point leaves it. -/
theorem keep_B_2 (hc0 : ¬cond0_0 i) (l : Fin 2048) (q : Fin 512) :
    sout0_B_2 (F := Ideal) c i a2 h2 a3 h3 a4 h4 a5 h5 a6 h6 a7 h7 a8 h8 a9 h9 a10 h10 a11 h11 a12 h12 hc0 x0 x1 x2 x3 x4 x5 x6 xs0 xs1 xs2 (ix2 l q) = xs2 (ix2 l q) := by
  rfl

end Cert.MergeIdeal.Hand

end
-- ==== Proof.MergeArrays.lean ====
/-
  The merge's result after the run, element by element.
-/
module

public import proofs.«01_k».proof.Proof.MergeStep
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Hand

open Cert.MergeIdeal Cert.MergeIdeal.Gen

/-- Each window's block index at a point: plane `t % 16`, column tile `t / 16`, the gates' tiles 16 and 24 further on. -/
theorem idx_in : ∀ t : Fin cfg0.N,
    win0_0.index t = ![t.val % 16, 0, 0] ∧ win0_1.index t = ![t.val % 16, 0, 0] ∧ win0_2.index t = ![t.val % 16, 0, 16 + t.val / 16]
      ∧ win0_3.index t = ![t.val % 16, 0, 24 + t.val / 16] ∧ win0_4.index t = ![0, t.val / 16] ∧ win0_5.index t = ![0, t.val / 16]
      ∧ win0_6.index t = ![0, t.val / 16] ∧ win0_7.index t = ![t.val % 16, 0, t.val / 16] := by decide +kernel

variable (m : (ℓ : Loc nD τ sig) → Buf (Elt Ideal) ℓ) (c : Dev nD)

/-- The call's arguments on device `c`. -/
abbrev aY : Vec Ideal S16x580x2048 .bf16 := m ((c : Thread nD τ).loc main_arg0)
abbrev aZ : Vec Ideal S16x580x2048 .bf16 := m ((c : Thread nD τ).loc main_arg1)
abbrev aP : Vec Ideal S16x580x16384 .bf16 := m ((c : Thread nD τ).loc main_arg2)
abbrev aV : Vec Ideal S1x2048x4096 .f32 := m ((c : Thread nD τ).loc main_arg3)
abbrev aG : Vec Ideal S1x2048x4096 .f32 := m ((c : Thread nD τ).loc main_arg4)
abbrev aC : Vec Ideal S1x2048x4096 .f32 := m ((c : Thread nD τ).loc main_arg5)

/-- A point's number is below the grid's size. -/
theorem lt_N (t : Fin cfg0.N) : t.val < 128 := Nat.lt_of_lt_of_eq t.isLt N_0

/-- The plane a point works on, and the column its tile's lane `q` is. -/
def pl (t : Fin cfg0.N) : Fin 16 := ⟨t.val % 16, Nat.mod_lt _ (by decide)⟩
def col (t : ℕ) (ht : t < cfg0.N) (q : Fin 512) : Fin 4096 := ⟨512 * (t / 16) + q.val, by have := lt_N ⟨t, ht⟩; dsimp only at this; omega⟩

/-- The merge at plane `p`, row `r`, column `k`, from the call's arguments. -/
def MIX (Y Z : Vec Ideal S16x580x2048 .bf16) (P : Vec Ideal S16x580x16384 .bf16) (V G C : Vec Ideal S1x2048x4096 .f32)
    (p : Fin 16) (r : Fin 576) (k : Fin 4096) : EReal :=
  mix (fun l => Y (ix3 p ⟨r.val, by omega⟩ l)) (fun l => Z (ix3 p ⟨r.val, by omega⟩ l))
    (P (ix3 p ⟨r.val, by omega⟩ ⟨8192 + k.val, by omega⟩)) (P (ix3 p ⟨r.val, by omega⟩ ⟨12288 + k.val, by omega⟩))
    (fun l => V (ix3 0 l k)) (fun l => G (ix3 0 l k)) (fun l => C (ix3 0 l k))

/-- A reshaped weight at the region's entry. -/
theorem vV (l : Fin 2048) (k : Fin 4096) : (V m c main_v0 : Vec Ideal S2048x4096 .f32) (ix2 l k) = aV m c (ix3 0 l k) := by
  unfold V; after_reads_at

/-- A reshaped weight at the region's entry. -/
theorem vG (l : Fin 2048) (k : Fin 4096) : (V m c main_v1 : Vec Ideal S2048x4096 .f32) (ix2 l k) = aG m c (ix3 0 l k) := by
  unfold V; after_reads_at

/-- A reshaped weight at the region's entry. -/
theorem vC (l : Fin 2048) (k : Fin 4096) : (V m c main_v2 : Vec Ideal S2048x4096 .f32) (ix2 l k) = aC m c (ix3 0 l k) := by
  unfold V; after_reads_at

theorem b0 (t : Fin cfg0.N) (r : Fin 576) (l : Fin 2048) :
    (X0_0 m c t : Vec Ideal S1x576x2048 .bf16) (ix3 0 r l) = aY m c (ix3 (pl t) ⟨r.val, by omega⟩ l) := by
  unfold X0_0 Pipeline.Window.fill
  rw [dif_pos (moved0_0 t _)]; unfold aY; rw [← V_main_arg0 m c]
  blk_ext [iblk, idx_in t, pl]

theorem b1 (t : Fin cfg0.N) (r : Fin 576) (l : Fin 2048) :
    (X0_1 m c t : Vec Ideal S1x576x2048 .bf16) (ix3 0 r l) = aZ m c (ix3 (pl t) ⟨r.val, by omega⟩ l) := by
  unfold X0_1 Pipeline.Window.fill
  rw [dif_pos (moved0_1 t _)]; unfold aZ; rw [← V_main_arg1 m c]
  blk_ext [iblk, idx_in t, pl]

theorem b2 (t : Fin cfg0.N) (r : Fin 576) (q : Fin 512) :
    (X0_2 m c t : Vec Ideal S1x576x512 .bf16) (ix3 0 r q)
      = aP m c (ix3 (pl t) ⟨r.val, by omega⟩ ⟨8192 + (col t.val t.isLt q).val, by omega⟩) := by
  unfold X0_2 Pipeline.Window.fill
  rw [dif_pos (moved0_2 t _)]; unfold aP; rw [← V_main_arg2 m c]
  blk_ext [iblk, idx_in t, pl, col]

theorem b3 (t : Fin cfg0.N) (r : Fin 576) (q : Fin 512) :
    (X0_3 m c t : Vec Ideal S1x576x512 .bf16) (ix3 0 r q)
      = aP m c (ix3 (pl t) ⟨r.val, by omega⟩ ⟨12288 + (col t.val t.isLt q).val, by omega⟩) := by
  unfold X0_3 Pipeline.Window.fill
  rw [dif_pos (moved0_3 t _)]; unfold aP; rw [← V_main_arg2 m c]
  blk_ext [iblk, idx_in t, pl, col]

theorem b4 (t : Fin cfg0.N) (l : Fin 2048) (q : Fin 512) :
    (iblk m c 4 t : Vec Ideal S2048x512 .f32) (ix2 l q) = aV m c (ix3 0 l (col t.val t.isLt q)) := by
  rw [← vV]
  blk_ext [iblk, idx_in t, col]

theorem b5 (t : Fin cfg0.N) (l : Fin 2048) (q : Fin 512) :
    (iblk m c 5 t : Vec Ideal S2048x512 .f32) (ix2 l q) = aG m c (ix3 0 l (col t.val t.isLt q)) := by
  rw [← vG]
  blk_ext [iblk, idx_in t, col]

theorem b6 (t : Fin cfg0.N) (l : Fin 2048) (q : Fin 512) :
    (iblk m c 6 t : Vec Ideal S2048x512 .f32) (ix2 l q) = aC m c (ix3 0 l (col t.val t.isLt q)) := by
  rw [← vC]
  blk_ext [iblk, idx_in t, col]

/-- Scratch 0 holds the point's column tile of its weights. -/
theorem kept_0 : ∀ (n : ℕ) (h : n < cfg0.N) (l : Fin 2048) (q : Fin 512),
    (outsAt0 m c n h).2.1 (ix2 l q) = aV m c (ix3 0 l (col n h q)) := by
  intro n
  induction n with
  | zero =>
    intro h l q
    rw [outsAt0_A m c ⟨0, h⟩ rfl]
    dsimp only
    rw [keep_A_0, b4]
  | succ n ih =>
    intro h l q
    by_cases h0 : (n + 1) % 16 = 0
    · rw [outsAt0_A m c ⟨n + 1, h⟩ h0]
      dsimp only
      rw [keep_A_0, b4]
    · rw [outsAt0_B m c ⟨n + 1, h⟩ h0]
      dsimp only
      rw [keep_B_0]
      refine (ih (Nat.lt_of_succ_lt h) l q).trans ?_
      have e : (n + 1) / 16 = n / 16 := by omega
      simp only [col, e]

/-- Scratch 1 holds the point's column tile of its weights. -/
theorem kept_1 : ∀ (n : ℕ) (h : n < cfg0.N) (l : Fin 2048) (q : Fin 512),
    (outsAt0 m c n h).2.2.1 (ix2 l q) = aG m c (ix3 0 l (col n h q)) := by
  intro n
  induction n with
  | zero =>
    intro h l q
    rw [outsAt0_A m c ⟨0, h⟩ rfl]
    dsimp only
    rw [keep_A_1, b5]
  | succ n ih =>
    intro h l q
    by_cases h0 : (n + 1) % 16 = 0
    · rw [outsAt0_A m c ⟨n + 1, h⟩ h0]
      dsimp only
      rw [keep_A_1, b5]
    · rw [outsAt0_B m c ⟨n + 1, h⟩ h0]
      dsimp only
      rw [keep_B_1]
      refine (ih (Nat.lt_of_succ_lt h) l q).trans ?_
      have e : (n + 1) / 16 = n / 16 := by omega
      simp only [col, e]

/-- Scratch 2 holds the point's column tile of its weights. -/
theorem kept_2 : ∀ (n : ℕ) (h : n < cfg0.N) (l : Fin 2048) (q : Fin 512),
    (outsAt0 m c n h).2.2.2 (ix2 l q) = aC m c (ix3 0 l (col n h q)) := by
  intro n
  induction n with
  | zero =>
    intro h l q
    rw [outsAt0_A m c ⟨0, h⟩ rfl]
    dsimp only
    rw [keep_A_2, b6]
  | succ n ih =>
    intro h l q
    by_cases h0 : (n + 1) % 16 = 0
    · rw [outsAt0_A m c ⟨n + 1, h⟩ h0]
      dsimp only
      rw [keep_A_2, b6]
    · rw [outsAt0_B m c ⟨n + 1, h⟩ h0]
      dsimp only
      rw [keep_B_2]
      refine (ih (Nat.lt_of_succ_lt h) l q).trans ?_
      have e : (n + 1) / 16 = n / 16 := by omega
      simp only [col, e]

/-- What a point leaves in its block. -/
theorem at_7 (t : Fin cfg0.N) (r : Fin 576) (q : Fin 512) :
    (outsAt0 m c t.val t.isLt).1 (ix3 0 r q) = MIX (aY m c) (aZ m c) (aP m c) (aV m c) (aG m c) (aC m c) (pl t) r (col t.val t.isLt q) := by
  unfold MIX
  by_cases h0 : t.val % 16 = 0
  · rw [outsAt0_A m c t h0]
    dsimp only
    rw [out_A]
    simp only [b0, b1, b2, b3, b4, b5, b6]
  · rw [outsAt0_B m c t h0]
    dsimp only
    rw [out_B]
    have e : (t.val - 1) / 16 = t.val / 16 := by omega
    simp only [b0, b1, b2, b3, kept_0, kept_1, kept_2, col, e]

/-- The result after the run. -/
def res7 (i : S16x576x4096.Idx) : EReal := MIX (aY m c) (aZ m c) (aP m c) (aV m c) (aG m c) (aC m c) (i 0) (i 1) (i 2)

/-- The merged rows after the run. -/
theorem final_7 : (dats m 0 c).arrAt 7 cfg0.N = res7 m c := by
  refine (dats m 0 c).arrAt_eq_of_covers 7 _ (by decide +kernel) fun t hf y => ?_
  blk_simp [Value.flushed7]
  have hl := lt_N t
  rw [after0_7]
  idx_vars y
  obtain rfl : y0 = 0 := Subsingleton.elim _ _
  refine (at_7 m c t y1 y2).trans ?_
  unfold res7 pl col
  congr 1 <;> refine Fin.ext ?_ <;> blk_simp [idx_in t] <;> (try dsimp only) <;> omega

end Cert.MergeIdeal.Hand

end
-- ==== Proof.MergeClaims.lean ====
/-
  The claims about the merge: its frames, and that its ideal form leaves in its result what the reference leaves in its own.
-/
module

public import proofs.«01_k».proof.Defs
public import proofs.«01_k».proof.Proof.MergeArrays
public import proofs.«01_k».proof.Proof.Gen.MergeRefIdeal.Read
public import proofs.«01_k».proof.Proof.Gen.Merge.Frame

@[expose] public section

set_option maxRecDepth 16384

noncomputable section

open Idealize.ShloMosaic Idealize.ShloMosaic.TcCoe Idealize.SL.Sem

namespace Cert.MergeRefIdeal.Hand

open Cert.MergeRefIdeal Cert.MergeRefIdeal.Gen Cert.MergeRefIdeal.Read
open Cert.MergeIdeal.Hand (mix MIX)

variable (Y Z : Vec Ideal S16x580x2048 .bf16) (P : Vec Ideal S16x580x16384 .bf16) (V G C : Vec Ideal S1x2048x4096 .f32)

/-- The recurrence rows' value product, -/
theorem val_apply (p : Fin 16) (r : Fin 576) (k : Fin 4096) :
    val_main_v7 (F := Ideal) Y V (ix3 p r k) = ∑ l : Fin 2048, Y (ix3 p ⟨r.val, by omega⟩ l) * V (ix3 0 l k) := by
  unfold val_main_v7 val_main_v6 val_main_v1 val_main_v0
  pointwise

/-- their gate, -/
theorem gate_apply (p : Fin 16) (r : Fin 576) (k : Fin 4096) :
    val_main_v15 (F := Ideal) Y G (ix3 p r k) = Ideal.logistic (∑ l : Fin 2048, Y (ix3 p ⟨r.val, by omega⟩ l) * G (ix3 0 l k)) := by
  unfold val_main_v15 val_main_v14 val_main_cst_0 val_main_v13 val_main_v12 val_main_cst val_main_v11 val_main_v10 val_main_v9
    val_main_v8 val_main_v1 val_main_v0
  pointwise
  rfl

/-- the convolution rows' product, -/
theorem conv_apply (p : Fin 16) (r : Fin 576) (k : Fin 4096) :
    val_main_v18 (F := Ideal) Z C (ix3 p r k) = ∑ l : Fin 2048, Z (ix3 p ⟨r.val, by omega⟩ l) * C (ix3 0 l k) := by
  unfold val_main_v18 val_main_v17 val_main_v3 val_main_v2
  pointwise

/-- and the two gates of the merge. -/
theorem ga_apply (p : Fin 16) (r : Fin 576) (k : Fin 4096) :
    val_main_v25 (F := Ideal) P (ix3 p r k) = Ideal.logistic (P (ix3 p ⟨r.val, by omega⟩ ⟨8192 + k.val, by omega⟩)) := by
  unfold val_main_v25 val_main_v24 val_main_cst_2 val_main_v23 val_main_v22 val_main_cst_1 val_main_v21 val_main_v20 val_main_v19
    val_main_v5 val_main_v4
  pointwise
  rfl

/-- The other gate. -/
theorem gb_apply (p : Fin 16) (r : Fin 576) (k : Fin 4096) :
    val_main_v33 (F := Ideal) P (ix3 p r k) = Ideal.logistic (P (ix3 p ⟨r.val, by omega⟩ ⟨12288 + k.val, by omega⟩)) := by
  unfold val_main_v33 val_main_v32 val_main_cst_4 val_main_v31 val_main_v30 val_main_cst_3 val_main_v29 val_main_v28 val_main_v27
    val_main_v5 val_main_v4
  pointwise
  rfl

/-- The reference's result, element by element. -/
theorem res_apply (i : S16x576x4096.Idx) :
    val_main_v36 (F := Ideal) Y Z P V G C i = MIX Y Z P V G C (i 0) (i 1) (i 2) := by
  idx_vars i
  unfold val_main_v36 val_main_v35 val_main_v34 val_main_v26 val_main_v16
  pointwise [MIX, mix, val_apply, gate_apply, conv_apply, ga_apply, gb_apply]

end Cert.MergeRefIdeal.Hand

namespace Cert.Proof.MergeClaims

/-- The kernel's frame: its arguments unchanged, its counters at zero. -/
theorem frame : Cert.quiescent_Merge := fun m ρ _ => Cert.Merge.Gen.frame m ρ

/-- The same of its ideal form. -/
theorem frameIdeal : Cert.quiescent_MergeIdeal := fun m ρ _ => Cert.MergeIdeal.Gen.frame m ρ

/-- The same of the reference, which declares no counter. -/
theorem frameRef : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

open Cert.MergeIdeal.Hand Cert.MergeRefIdeal.Hand Cert.MergeRefIdeal.Read in
/-- The result of the ideal kernel is the reference's, over the extended reals. -/
theorem algebraic : Cert.algebraic_MergeIdeal_MergeRefIdeal := by
  intro m ρ m' ρ' _ hagree
  refine ⟨fun c => res7 m c, ?_, ?_⟩
  · exact (θ_run Cert.MergeIdeal.defs _ _).mono
      (fun _ h c => ⟨(h c).1.trans (final_7 m c), (h c).2⟩)
      (Cert.MergeIdeal.Value.run_blocks (F := Ideal) m ρ)
  · refine (θ_run Cert.MergeRefIdeal.defs _ _).mono (fun _ h c => ⟨(h c).1.trans ?_, (h c).2⟩)
      (Cert.MergeRefIdeal.Value.run (F := Ideal) m' ρ')
    obtain ⟨e0, e1, e2, e3, e4, e5⟩ := hagree c
    rw [e0, e1, e2, e3, e4, e5]
    exact (val_main_v36_eq _ _ _ _ _ _).trans (funext fun i => res_apply _ _ _ _ _ _ i)

end Cert.Proof.MergeClaims

end
-- ==== Proof.Canon.lean ====
/-
  A fact about stores laid over one another, which the output projection's accumulator needs.
-/
module

public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Canon

/-- Stores that cover a buffer hide the older ones beneath them. -/
theorem canon_append_of_cover {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_append_of_cover L' L y ⟨q, hq, hy⟩

end Cert.Canon

end
-- ==== Proof.OProjStep.lean ====
/-
  One grid point of the output projection: what the body leaves in its two output blocks, element by element over the
  extended reals. Eight points accumulate a plane's product; the last one adds the residual and normalises.
-/
module

public import proofs.«01_k».proof.Proof.Gen.OProjIdeal.Value
public import proofs.«01_k».proof.Proof.Canon
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.OProjIdeal.Hand

open Cert.OProjIdeal Cert.OProjIdeal.Gen Cert.Canon

/-- One element of a normalised row `a`, scaled by `g`. -/
def rms (a g : Fin 4096 → EReal) (q : Fin 4096) : EReal :=
  a q * Ideal.rsqrt (Ideal.div (∑ l : Fin 4096, a l * a l) (Ideal.ofBits .f32 0x45800000#32) + (Ideal.ofBits .f32 0x358637BD#32)) * g q

/-- A plane's residual row `r`, from its sample rows and its prompt rows. -/
def rows (s : Fin 64 → Fin 4096 → EReal) (p : Fin 512 → Fin 4096 → EReal) (r : Fin 576) (q : Fin 4096) : EReal :=
  if h : r.val < 64 then s ⟨r.val, h⟩ q else p ⟨r.val - 64, by omega⟩ q

/-- The residual and the normalised projection. -/
def mid (x a g : Fin 4096 → EReal) (q : Fin 4096) : EReal := x q + rms a g q

/-- Some point that is neither the first nor the last of its run. -/
theorem mid_exists : ∃ i : grid0.Coords, ¬cond0_0 i ∧ ¬cond0_1 i :=
  ⟨grid0.coords ⟨1, by decide +kernel⟩, by rw [hcond0_0]; decide, by rw [hcond0_1]; decide⟩

variable (c : Dev nD) (i : grid0.Coords)
    (a2 : Memref sig .tc .vmem S1x576x512 .bf16) (h2 : a2.IsWhole)
    (a3 : Memref sig .tc .vmem S512x4096 .bf16) (h3 : a3.IsWhole)
    (a4 : Memref sig .tc .vmem S64x4096 .f32) (h4 : a4.IsWhole)
    (a5 : Memref sig .tc .vmem S1x4096 .f32) (h5 : a5.IsWhole)
    (a6 : Memref sig .tc .vmem S1x4096 .f32) (h6 : a6.IsWhole)
    (a7 : Memref sig .tc .vmem S512x4096 .f32) (h7 : a7.IsWhole)
    (a8 : Memref sig .tc .vmem S1x576x4096 .f32) (h8 : a8.IsWhole)
    (a9 : Memref sig .tc .vmem S1x576x4096 .bf16) (h9 : a9.IsWhole)
    (x0 : Vec Ideal S1x576x512 .bf16) (x1 : Vec Ideal S512x4096 .bf16) (x2 : Vec Ideal S64x4096 .f32)
    (x3 x4 : Vec Ideal S1x4096 .f32) (x5 : Vec Ideal S512x4096 .f32) (xo6 : Vec Ideal S1x576x4096 .f32)

/-- The accumulator's block after a point that found `acc` there. -/
def acc6 (acc : Vec Ideal S1x576x4096 .f32) (x0 : Vec Ideal S1x576x512 .bf16) (x1 : Vec Ideal S512x4096 .bf16)
    (r : Fin 576) (q : Fin 4096) : EReal :=
  acc (ix3 0 r q) + ∑ k : Fin 512, x0 (ix3 0 r k) * x1 (ix2 k q)

/-- A later point adds its part onto the accumulator. -/
theorem out_B_6 (hc0 : ¬cond0_0 i) (hc1 : ¬cond0_1 i) (r : Fin 576) (q : Fin 4096) :
    out0_B_6 (F := Ideal) c i a2 h2 a3 h3 a4 h4 a5 h5 a6 h6 a7 h7 a8 h8 a9 h9 hc0 hc1 x0 x1 x2 x3 x4 x5 xo6 (ix3 0 r q) = acc6 xo6 x0 x1 r q := by
  unfold acc6
  frame_out
  canon_tiles y e
  all_goals
    idx_vars y
    unfold_payloads
    pointwise
    obtain rfl : y0 = 0 := Subsingleton.elim _ _
    obtain ⟨r, hr⟩ := r
    obtain ⟨q, hq⟩ := q
    dsimp only at e0 e1 e2
    subst e1 e2
    first | rfl | simp only [Nat.zero_add]

/-- The first point of a plane starts from zeros. -/
theorem out_A_6 (hc0 : cond0_0 i) (hc1 : ¬cond0_1 i) (r : Fin 576) (q : Fin 4096) :
    out0_A_6 (F := Ideal) c i a2 h2 a3 h3 a4 h4 a5 h5 a6 h6 a7 h7 a8 h8 a9 h9 hc0 hc1 x0 x1 x2 x3 x4 x5 (ix3 0 r q) = acc6 (fun _ => 0) x0 x1 r q := by
  unfold acc6
  frame_open
  simp (disch := decide) only [↓ View.readCov_skip, ↓ View.readCov_cons_toLoadRect, ↓ View.readCov_fill]
  frame_out
  refine (canon_append_of_cover (Val := Elt Ideal) [_] [_, _, _, _, _, _, _, _] _ (View.cover_of_tiledL _ ![1, 576, 512] (by rfl) _)).trans ?_
  canon_tiles y e
  all_goals
    idx_vars y
    unfold_payloads
    pointwise
    obtain rfl : y0 = 0 := Subsingleton.elim _ _
    obtain ⟨r, hr⟩ := r
    obtain ⟨q, hq⟩ := q
    dsimp only at e0 e1 e2
    subst e1 e2
    first | rfl | simp only [Nat.zero_add]

end Cert.OProjIdeal.Hand

end
-- ==== Proof.OProjLast.lean ====
/-
  The last grid point of a plane in the output projection: it reads back the accumulator it has just finished, a chunk of
  rows at a time, adds the residual, and stores that and its normalised copy.
-/
module

public import proofs.«01_k».proof.Proof.OProjStep

@[expose] public section

set_option maxRecDepth 16384

noncomputable section

open Idealize.ShloMosaic Idealize.ShloMosaic.TcCoe Idealize.SL.Sem

namespace Cert.OProjIdeal.Hand

open Cert.OProjIdeal Cert.OProjIdeal.Gen Cert.Canon

variable (c : Dev nD) (i : grid0.Coords)
    (a2 : Memref sig .tc .vmem S1x576x512 .bf16) (h2 : a2.IsWhole)
    (a3 : Memref sig .tc .vmem S512x4096 .bf16) (h3 : a3.IsWhole)
    (a4 : Memref sig .tc .vmem S64x4096 .f32) (h4 : a4.IsWhole)
    (a5 : Memref sig .tc .vmem S1x4096 .f32) (h5 : a5.IsWhole)
    (a6 : Memref sig .tc .vmem S1x4096 .f32) (h6 : a6.IsWhole)
    (a7 : Memref sig .tc .vmem S512x4096 .f32) (h7 : a7.IsWhole)
    (a8 : Memref sig .tc .vmem S1x576x4096 .f32) (h8 : a8.IsWhole)
    (a9 : Memref sig .tc .vmem S1x576x4096 .bf16) (h9 : a9.IsWhole)
    (x0 : Vec Ideal S1x576x512 .bf16) (x1 : Vec Ideal S512x4096 .bf16) (x2 : Vec Ideal S64x4096 .f32)
    (x3 x4 : Vec Ideal S1x4096 .f32) (x5 : Vec Ideal S512x4096 .f32) (xo6 : Vec Ideal S1x576x4096 .f32)

/-- The last point of a plane leaves in output 0 the residual with the normalised projection added. -/
theorem out_C_6 (hc0 : ¬cond0_0 i) (hc1 : cond0_1 i) (r : Fin 576) (q : Fin 4096) :
    out0_C_6 (F := Ideal) c i a2 h2 a3 h3 a4 h4 a5 h5 a6 h6 a7 h7 a8 h8 a9 h9 hc0 hc1 x0 x1 x2 x3 x4 x5 xo6 (ix3 0 r q)
      = mid (rows (fun r l => x2 (ix2 r l)) (fun r l => x5 (ix2 r l)) r) (fun q => acc6 xo6 x0 x1 r q) (fun l => x3 (ix2 0 l)) q := by
  obtain ⟨j, hj0, hj1⟩ := mid_exists
  frame_open
  simp (disch := decide) only [↓ View.readCov_skip, ↓ View.readCov_cons_toLoadRect, ↓ View.readCov_fill]
  frame_out
  refine (canon_append_of_cover (Val := Elt Ideal) [_, _, _, _, _, _, _, _] [_, _, _, _, _] _ (View.cover_of_tiledBy _ ![1, 64, 4096] (by sl_kernel_rfl) _)).trans ?_
  canon_tiles y e using (View.cover_of_tiledBy _ ![1, 64, 4096] (by sl_kernel_rfl) _)
  case piece0 =>
    generalize hX : View.readCov (Val := Elt Ideal) a8.view _ _ = X
    idx_vars y
    have hX' : ∀ (r' : Fin 128) q, X (ix3 0 r' q) = acc6 xo6 x0 x1 ⟨448 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 448 + 1 * r'.val = 448 + r'.val by omega)
      | ⟨2, _⟩ => exact (show 0 + 1 * q.val = q.val by omega)
    have hrow : ∀ (h : 448 + y1.val < 576) (l : Fin 4096), rows (fun r l => x2 (ix2 r l)) (fun r l => x5 (ix2 r l)) ⟨448 + y1.val, h⟩ l = x5 (ix2 ⟨384 + y1.val, by omega⟩ l) := fun h l => by
      unfold rows
      rw [dif_neg (by dsimp only; omega)]
      exact congrArg (fun k => x5 (ix2 k l)) (Fin.ext (show 448 + y1.val - 64 = 384 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece1 =>
    generalize hX : View.readCov (Val := Elt Ideal) a8.view _ _ = X
    idx_vars y
    have hX' : ∀ (r' : Fin 128) q, X (ix3 0 r' q) = acc6 xo6 x0 x1 ⟨320 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 320 + 1 * r'.val = 320 + r'.val by omega)
      | ⟨2, _⟩ => exact (show 0 + 1 * q.val = q.val by omega)
    have hrow : ∀ (h : 320 + y1.val < 576) (l : Fin 4096), rows (fun r l => x2 (ix2 r l)) (fun r l => x5 (ix2 r l)) ⟨320 + y1.val, h⟩ l = x5 (ix2 ⟨256 + y1.val, by omega⟩ l) := fun h l => by
      unfold rows
      rw [dif_neg (by dsimp only; omega)]
      exact congrArg (fun k => x5 (ix2 k l)) (Fin.ext (show 320 + y1.val - 64 = 256 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece2 =>
    generalize hX : View.readCov (Val := Elt Ideal) a8.view _ _ = X
    idx_vars y
    have hX' : ∀ (r' : Fin 128) q, X (ix3 0 r' q) = acc6 xo6 x0 x1 ⟨192 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 192 + 1 * r'.val = 192 + r'.val by omega)
      | ⟨2, _⟩ => exact (show 0 + 1 * q.val = q.val by omega)
    have hrow : ∀ (h : 192 + y1.val < 576) (l : Fin 4096), rows (fun r l => x2 (ix2 r l)) (fun r l => x5 (ix2 r l)) ⟨192 + y1.val, h⟩ l = x5 (ix2 ⟨128 + y1.val, by omega⟩ l) := fun h l => by
      unfold rows
      rw [dif_neg (by dsimp only; omega)]
      exact congrArg (fun k => x5 (ix2 k l)) (Fin.ext (show 192 + y1.val - 64 = 128 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece3 =>
    generalize hX : View.readCov (Val := Elt Ideal) a8.view _ _ = X
    idx_vars y
    have hX' : ∀ (r' : Fin 128) q, X (ix3 0 r' q) = acc6 xo6 x0 x1 ⟨64 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 64 + 1 * r'.val = 64 + r'.val by omega)
      | ⟨2, _⟩ => exact (show 0 + 1 * q.val = q.val by omega)
    have hrow : ∀ (h : 64 + y1.val < 576) (l : Fin 4096), rows (fun r l => x2 (ix2 r l)) (fun r l => x5 (ix2 r l)) ⟨64 + y1.val, h⟩ l = x5 (ix2 ⟨0 + y1.val, by omega⟩ l) := fun h l => by
      unfold rows
      rw [dif_neg (by dsimp only; omega)]
      exact congrArg (fun k => x5 (ix2 k l)) (Fin.ext (show 64 + y1.val - 64 = 0 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece4 =>
    generalize hX : View.readCov (Val := Elt Ideal) a8.view _ _ = X
    idx_vars y
    have hX' : ∀ (r' : Fin 64) q, X (ix3 0 r' q) = acc6 xo6 x0 x1 ⟨r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 0 + 1 * r'.val = r'.val by omega)
      | ⟨2, _⟩ => exact (show 0 + 1 * q.val = q.val by omega)
    have hrow : ∀ (h : y1.val < 576) (l : Fin 4096), rows (fun r l => x2 (ix2 r l)) (fun r l => x5 (ix2 r l)) ⟨y1.val, h⟩ l = x2 (ix2 ⟨y1.val, by omega⟩ l) := fun h l => by
      unfold rows
      rw [dif_pos (by dsimp only; omega)]
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]

/-- The last point of a plane leaves in output 1 the same rows normalised again. -/
theorem out_C_7 (hc0 : ¬cond0_0 i) (hc1 : cond0_1 i) (r : Fin 576) (q : Fin 4096) :
    out0_C_7 (F := Ideal) c i a2 h2 a3 h3 a4 h4 a5 h5 a6 h6 a7 h7 a8 h8 a9 h9 hc0 hc1 x0 x1 x2 x3 x4 x5 xo6 (ix3 0 r q)
      = rms (mid (rows (fun r l => x2 (ix2 r l)) (fun r l => x5 (ix2 r l)) r) (fun q => acc6 xo6 x0 x1 r q) (fun l => x3 (ix2 0 l))) (fun l => x4 (ix2 0 l)) q := by
  obtain ⟨j, hj0, hj1⟩ := mid_exists
  frame_open
  simp (disch := decide) only [↓ View.readCov_skip, ↓ View.readCov_cons_toLoadRect, ↓ View.readCov_fill]
  frame_out
  canon_tiles y e using (View.cover_of_tiledBy _ ![1, 64, 4096] (by sl_kernel_rfl) _)
  case piece0 =>
    generalize hX : View.readCov (Val := Elt Ideal) a8.view _ _ = X
    idx_vars y
    have hX' : ∀ (r' : Fin 128) q, X (ix3 0 r' q) = acc6 xo6 x0 x1 ⟨448 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 448 + 1 * r'.val = 448 + r'.val by omega)
      | ⟨2, _⟩ => exact (show 0 + 1 * q.val = q.val by omega)
    have hrow : ∀ (h : 448 + y1.val < 576) (l : Fin 4096), rows (fun r l => x2 (ix2 r l)) (fun r l => x5 (ix2 r l)) ⟨448 + y1.val, h⟩ l = x5 (ix2 ⟨384 + y1.val, by omega⟩ l) := fun h l => by
      unfold rows
      rw [dif_neg (by dsimp only; omega)]
      exact congrArg (fun k => x5 (ix2 k l)) (Fin.ext (show 448 + y1.val - 64 = 384 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece1 =>
    generalize hX : View.readCov (Val := Elt Ideal) a8.view _ _ = X
    idx_vars y
    have hX' : ∀ (r' : Fin 128) q, X (ix3 0 r' q) = acc6 xo6 x0 x1 ⟨320 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 320 + 1 * r'.val = 320 + r'.val by omega)
      | ⟨2, _⟩ => exact (show 0 + 1 * q.val = q.val by omega)
    have hrow : ∀ (h : 320 + y1.val < 576) (l : Fin 4096), rows (fun r l => x2 (ix2 r l)) (fun r l => x5 (ix2 r l)) ⟨320 + y1.val, h⟩ l = x5 (ix2 ⟨256 + y1.val, by omega⟩ l) := fun h l => by
      unfold rows
      rw [dif_neg (by dsimp only; omega)]
      exact congrArg (fun k => x5 (ix2 k l)) (Fin.ext (show 320 + y1.val - 64 = 256 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece2 =>
    generalize hX : View.readCov (Val := Elt Ideal) a8.view _ _ = X
    idx_vars y
    have hX' : ∀ (r' : Fin 128) q, X (ix3 0 r' q) = acc6 xo6 x0 x1 ⟨192 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 192 + 1 * r'.val = 192 + r'.val by omega)
      | ⟨2, _⟩ => exact (show 0 + 1 * q.val = q.val by omega)
    have hrow : ∀ (h : 192 + y1.val < 576) (l : Fin 4096), rows (fun r l => x2 (ix2 r l)) (fun r l => x5 (ix2 r l)) ⟨192 + y1.val, h⟩ l = x5 (ix2 ⟨128 + y1.val, by omega⟩ l) := fun h l => by
      unfold rows
      rw [dif_neg (by dsimp only; omega)]
      exact congrArg (fun k => x5 (ix2 k l)) (Fin.ext (show 192 + y1.val - 64 = 128 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece3 =>
    generalize hX : View.readCov (Val := Elt Ideal) a8.view _ _ = X
    idx_vars y
    have hX' : ∀ (r' : Fin 128) q, X (ix3 0 r' q) = acc6 xo6 x0 x1 ⟨64 + r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 64 + 1 * r'.val = 64 + r'.val by omega)
      | ⟨2, _⟩ => exact (show 0 + 1 * q.val = q.val by omega)
    have hrow : ∀ (h : 64 + y1.val < 576) (l : Fin 4096), rows (fun r l => x2 (ix2 r l)) (fun r l => x5 (ix2 r l)) ⟨64 + y1.val, h⟩ l = x5 (ix2 ⟨0 + y1.val, by omega⟩ l) := fun h l => by
      unfold rows
      rw [dif_neg (by dsimp only; omega)]
      exact congrArg (fun k => x5 (ix2 k l)) (Fin.ext (show 64 + y1.val - 64 = 0 + y1.val by omega))
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]
  case piece4 =>
    generalize hX : View.readCov (Val := Elt Ideal) a8.view _ _ = X
    idx_vars y
    have hX' : ∀ (r' : Fin 64) q, X (ix3 0 r' q) = acc6 xo6 x0 x1 ⟨r'.val, by omega⟩ q := fun r' q => by
      rw [← hX, View.readCov_eq_canon']
      refine Eq.trans ?_ (out_B_6 c j a2 h2 a3 h3 a4 h4 a5 h5 a6 h6 a7 h7 a8 h8 a9 h9 x0 x1 x2 x3 x4 x5 xo6 hj0 hj1 _ q)
      frame_out
      refine congrArg (View.canon _) (funext fun a => Fin.ext ?_)
      match a with
      | ⟨0, _⟩ => rfl
      | ⟨1, _⟩ => exact (show 0 + 1 * r'.val = r'.val by omega)
      | ⟨2, _⟩ => exact (show 0 + 1 * q.val = q.val by omega)
    have hrow : ∀ (h : y1.val < 576) (l : Fin 4096), rows (fun r l => x2 (ix2 r l)) (fun r l => x5 (ix2 r l)) ⟨y1.val, h⟩ l = x2 (ix2 ⟨y1.val, by omega⟩ l) := fun h l => by
      unfold rows
      rw [dif_pos (by dsimp only; omega)]
    clear hX
    unfold_payloads
    pointwise [hX']
    obtain rfl : y0 = 0 := Subsingleton.elim _ _
    obtain ⟨r, hr⟩ := r
    obtain ⟨q, hq⟩ := q
    dsimp only [Fin.eta] at e0 e1 e2 ⊢
    subst e1 e2
    simp only [← Nat.add_assoc, Nat.reduceAdd, Nat.zero_add, mid, rms, hrow]

end Cert.OProjIdeal.Hand

end
-- ==== Proof.OProjArrays.lean ====
/-
  The output projection's two arrays after the run, as functions of the argument arrays: the accumulator over a plane's
  eight points, and what the plane's last point writes back.
-/
module

public import proofs.«01_k».proof.Proof.OProjLast
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.OProjIdeal.Hand

open Cert.OProjIdeal Cert.OProjIdeal.Gen

/-! ## What the whole call computes, from the arrays -/

/-- The projection at plane `p`, row `r`, channel `q`. -/
def PROJ (A : Vec Ideal S16x576x4096 .bf16) (W : Vec Ideal S4096x4096 .bf16) (p : Fin 16) (r : Fin 576) (q : Fin 4096) : EReal :=
  ∑ k : Fin 4096, A (ix3 p r k) * W (ix2 k q)

/-- The residual's row `r` of plane `p`: two sample sequences to a row, then 128 runs to a prompt. -/
def XROW (S : Vec Ideal S128x8x4096 .f32) (X : Vec Ideal S4x2048x4096 .f32) (p : Fin 16) (r : Fin 576) (q : Fin 4096) : EReal :=
  rows (fun r l => S (ix3 ⟨r.val * 2 + p.val / 8, by omega⟩ ⟨p.val % 8, by omega⟩ l))
    (fun r l => X (ix3 ⟨r.val / 128, by omega⟩ ⟨r.val % 128 * 16 + p.val, by omega⟩ l)) r q

/-- The residual with the normalised projection added. -/
def XOUT (A : Vec Ideal S16x576x4096 .bf16) (W : Vec Ideal S4096x4096 .bf16) (S : Vec Ideal S128x8x4096 .f32) (X : Vec Ideal S4x2048x4096 .f32) (g : Vec Ideal S1x4096 .f32)
    (p : Fin 16) (r : Fin 576) (q : Fin 4096) : EReal :=
  mid (XROW S X p r) (PROJ A W p r) (fun l => g (ix2 0 l)) q

/-- The same rows normalised again. -/
def HOUT (A : Vec Ideal S16x576x4096 .bf16) (W : Vec Ideal S4096x4096 .bf16) (S : Vec Ideal S128x8x4096 .f32) (X : Vec Ideal S4x2048x4096 .f32) (g g' : Vec Ideal S1x4096 .f32)
    (p : Fin 16) (r : Fin 576) (q : Fin 4096) : EReal :=
  rms (XOUT A W S X g p r) (fun l => g' (ix2 0 l)) q

/-- One term of the projection's sum, 0 past the last channel. -/
def term (A : Vec Ideal S16x576x4096 .bf16) (W : Vec Ideal S4096x4096 .bf16) (p : Fin 16) (r : Fin 576) (q : Fin 4096) (k : ℕ) : EReal :=
  if h : k < 4096 then A (ix3 p r ⟨k, h⟩) * W (ix2 ⟨k, h⟩ q) else 0

/-- The terms add up to the product. -/
theorem sum_term (A : Vec Ideal S16x576x4096 .bf16) (W : Vec Ideal S4096x4096 .bf16) (p : Fin 16) (r : Fin 576) (q : Fin 4096) :
    ∑ k ∈ Finset.range 4096, term A W p r q k = PROJ A W p r q := by
  rw [Finset.sum_range]
  exact Finset.sum_congr rfl fun k _ => dif_pos k.isLt

/-! ## The windows' blocks -/

/-- Each input window's block index at a point: plane `t / 8`, channel block `t % 8`. -/
theorem idx_in : ∀ t : Fin cfg0.N,
    win0_0.index t = ![t.val / 8, 0, t.val % 8] ∧ win0_1.index t = ![t.val % 8, 0] ∧ win0_2.index t = ![0, t.val / 8]
      ∧ win0_3.index t = ![0, 0] ∧ win0_4.index t = ![0, 0] ∧ win0_5.index t = ![0, t.val / 8]
      ∧ win0_6.index t = ![t.val / 8, 0, 0] ∧ win0_7.index t = ![t.val / 8, 0, 0] := by
  decide +kernel

variable (m : (ℓ : Loc nD τ sig) → Buf (Elt Ideal) ℓ) (c : Dev nD)

abbrev aA : Vec Ideal S16x576x4096 .bf16 := m ((c : Thread nD τ).loc main_arg0)
abbrev aW : Vec Ideal S4096x4096 .bf16 := m ((c : Thread nD τ).loc main_arg1)
abbrev aS : Vec Ideal S128x8x4096 .f32 := m ((c : Thread nD τ).loc main_arg2)
abbrev aX : Vec Ideal S4x2048x4096 .f32 := m ((c : Thread nD τ).loc main_arg3)
abbrev aG : Vec Ideal S1x4096 .f32 := m ((c : Thread nD τ).loc main_arg4)
abbrev aH : Vec Ideal S1x4096 .f32 := m ((c : Thread nD τ).loc main_arg5)

/-- A point's number is below the grid's size. -/
theorem lt_N (t : Fin cfg0.N) : t.val < 128 := Nat.lt_of_lt_of_eq t.isLt N_0

/-- A point's plane. -/
def pl (t : Fin cfg0.N) : Fin 16 := ⟨t.val / 8, by have := lt_N t; omega⟩

/-- The sample rows at the region's entry, a plane beside the other. -/
theorem vS (r : Fin 64) (p : Fin 16) (l : Fin 4096) :
    (V m c main_v0 : Vec Ideal S64x65536 .f32) (ix2 r ⟨4096 * p.val + l.val, by omega⟩)
      = aS m c (ix3 ⟨r.val * 2 + p.val / 8, by omega⟩ ⟨p.val % 8, by omega⟩ l) := by
  unfold V; after_reads_at
  congr 2 <;> refine Fin.ext ?_ <;> (try dsimp only) <;> omega

/-- The prompt rows at the region's entry. -/
theorem vX (r : Fin 512) (p : Fin 16) (l : Fin 4096) :
    (V m c main_v1 : Vec Ideal S512x65536 .f32) (ix2 r ⟨4096 * p.val + l.val, by omega⟩)
      = aX m c (ix3 ⟨r.val / 128, by omega⟩ ⟨r.val % 128 * 16 + p.val, by omega⟩ l) := by
  unfold V; after_reads_at
  congr 2 <;> refine Fin.ext ?_ <;> (try dsimp only) <;> omega

theorem b0 (t : Fin cfg0.N) (r : Fin 576) (k : Fin 512) :
    (iblk m c 0 t : Vec Ideal S1x576x512 .bf16) (ix3 0 r k) = aA m c (ix3 (pl t) r ⟨512 * (t.val % 8) + k.val, by omega⟩) := by
  unfold aA; rw [← V_main_arg0 m c]
  blk_ext [iblk, idx_in t, pl]

theorem b1 (t : Fin cfg0.N) (k : Fin 512) (q : Fin 4096) :
    (iblk m c 1 t : Vec Ideal S512x4096 .bf16) (ix2 k q) = aW m c (ix2 ⟨512 * (t.val % 8) + k.val, by omega⟩ q) := by
  unfold aW; rw [← V_main_arg1 m c]
  blk_ext [iblk, idx_in t]

theorem b2 (t : Fin cfg0.N) (r : Fin 64) (l : Fin 4096) :
    (iblk m c 2 t : Vec Ideal S64x4096 .f32) (ix2 r l) = aS m c (ix3 ⟨r.val * 2 + (pl t).val / 8, by omega⟩ ⟨(pl t).val % 8, by omega⟩ l) := by
  rw [← vS]
  blk_ext [iblk, idx_in t, pl]

theorem b3 (t : Fin cfg0.N) (q : Fin 4096) : (iblk m c 3 t : Vec Ideal S1x4096 .f32) (ix2 0 q) = aG m c (ix2 0 q) := by
  unfold aG; rw [← V_main_arg4 m c]
  blk_ext [iblk, idx_in t]

theorem b4 (t : Fin cfg0.N) (q : Fin 4096) : (iblk m c 4 t : Vec Ideal S1x4096 .f32) (ix2 0 q) = aH m c (ix2 0 q) := by
  unfold aH; rw [← V_main_arg5 m c]
  blk_ext [iblk, idx_in t]

theorem b5 (t : Fin cfg0.N) (r : Fin 512) (l : Fin 4096) :
    (iblk m c 5 t : Vec Ideal S512x4096 .f32) (ix2 r l)
      = aX m c (ix3 ⟨r.val / 128, by omega⟩ ⟨r.val % 128 * 16 + (pl t).val, by omega⟩ l) := by
  rw [← vX]
  blk_ext [iblk, idx_in t, pl]

/-- A point's part of the projection is its 512 terms of the sum. -/
theorem part_eq (t : Fin cfg0.N) (acc : Vec Ideal S1x576x4096 .f32) (r : Fin 576) (q : Fin 4096) :
    acc6 acc (iblk m c 0 t) (iblk m c 1 t) r q
      = acc (ix3 0 r q) + ∑ k ∈ Finset.range 512, term (aA m c) (aW m c) (pl t) r q (512 * (t.val % 8) + k) := by
  unfold acc6
  rw [Finset.sum_range]
  refine congrArg _ (Finset.sum_congr rfl fun k _ => ?_)
  unfold term
  rw [dif_pos (by omega), b0, b1]

/-! ## The accumulator over the points -/

/-- Before a plane's last point, the accumulator holds the terms of the channel blocks seen so far. -/
theorem run_6 : ∀ (n : ℕ) (h : n < cfg0.N) (_ : n % 8 < 7) (r : Fin 576) (q : Fin 4096),
    (outsAt0 m c n h).1 (ix3 0 r q) = ∑ k ∈ Finset.range (512 * (n % 8 + 1)), term (aA m c) (aW m c) (pl ⟨n, h⟩) r q k := by
  intro n
  induction n with
  | zero =>
    intro h _ r q
    rw [outsAt0_A m c ⟨0, h⟩ rfl (by dsimp only; omega)]
    dsimp only
    rw [out_A_6]
    rw [part_eq, zero_add]
    simp only [Nat.zero_mod, Nat.mul_zero, Nat.zero_add, Nat.mul_one]
  | succ n ih =>
    intro h hn r q
    by_cases h0 : (n + 1) % 8 = 0
    · rw [outsAt0_A m c ⟨n + 1, h⟩ h0 (by dsimp only; omega)]
      dsimp only
      rw [out_A_6]
      rw [part_eq, zero_add]
      simp only [h0, Nat.mul_zero, Nat.zero_add, Nat.mul_one]
    · rw [outsAt0_B m c ⟨n + 1, h⟩ h0 (by dsimp only; omega)]
      dsimp only
      rw [out_B_6]
      rw [part_eq]
      have e1 : (n + 1) % 8 = n % 8 + 1 := by omega
      have e2 : pl ⟨n + 1, h⟩ = pl ⟨n, Nat.lt_of_succ_lt h⟩ := Fin.ext (by unfold pl; dsimp only; omega)
      have := ih (Nat.lt_of_succ_lt h) (by omega) r q
      simp only [Nat.add_sub_cancel] at this ⊢
      rw [this, e2, e1, show 512 * (n % 8 + 1 + 1) = 512 * (n % 8 + 1) + 512 by omega, Finset.sum_range_add]

/-- At a plane's last point the accumulator is completed to the projection. -/
theorem done (n : ℕ) (hn : n + 1 < cfg0.N) (ht : (n + 1) % 8 = 7) (r : Fin 576) (q : Fin 4096) :
    acc6 (outsAt0 m c (n + 1 - 1) (by omega)).1 (iblk m c 0 ⟨n + 1, hn⟩) (iblk m c 1 ⟨n + 1, hn⟩) r q
      = PROJ (aA m c) (aW m c) (pl ⟨n + 1, hn⟩) r q := by
  rw [part_eq, ← sum_term]
  have e2 : pl ⟨n + 1, hn⟩ = pl ⟨n, Nat.lt_of_succ_lt hn⟩ := Fin.ext (by unfold pl; dsimp only; omega)
  have := run_6 m c n (Nat.lt_of_succ_lt hn) (by omega) r q
  have e1 : n % 8 = 6 := by omega
  simp only [Nat.add_sub_cancel] at this ⊢
  rw [this, e2, ht, e1, show 4096 = 512 * (6 + 1) + 512 from rfl, Finset.sum_range_add]

/-- What a plane's last point leaves in output 0, -/
theorem last_6 (t : Fin cfg0.N) (ht : t.val % 8 = 7) (r : Fin 576) (q : Fin 4096) :
    (outsAt0 m c t.val t.isLt).1 (ix3 0 r q) = XOUT (aA m c) (aW m c) (aS m c) (aX m c) (aG m c) (pl t) r q := by
  obtain ⟨n, hn⟩ := t
  cases n with
  | zero => exact absurd ht (by dsimp only; omega)
  | succ n =>
    rw [outsAt0_C m c ⟨n + 1, hn⟩ (by dsimp only at ht ⊢; omega) ht]
    dsimp only at ht ⊢
    rw [out_C_6]
    unfold XOUT XROW
    simp only [done m c n hn ht, b2, b3, b5]

/-- and in output 1. -/
theorem last_7 (t : Fin cfg0.N) (ht : t.val % 8 = 7) (r : Fin 576) (q : Fin 4096) :
    (outsAt0 m c t.val t.isLt).2 (ix3 0 r q) = HOUT (aA m c) (aW m c) (aS m c) (aX m c) (aG m c) (aH m c) (pl t) r q := by
  obtain ⟨n, hn⟩ := t
  cases n with
  | zero => exact absurd ht (by dsimp only; omega)
  | succ n =>
    rw [outsAt0_C m c ⟨n + 1, hn⟩ (by dsimp only at ht ⊢; omega) ht]
    dsimp only at ht ⊢
    rw [out_C_7]
    unfold HOUT XOUT XROW
    simp only [done m c n hn ht, b2, b3, b4, b5]

/-- Result 0's array after the run. -/
def res6 (i : S16x576x4096.Idx) : EReal := XOUT (aA m c) (aW m c) (aS m c) (aX m c) (aG m c) (i 0) (i 1) (i 2)

/-- Result 1's array after the run. -/
def res7 (i : S16x576x4096.Idx) : EReal := HOUT (aA m c) (aW m c) (aS m c) (aX m c) (aG m c) (aH m c) (i 0) (i 1) (i 2)

/-- The residual rows after the run. -/
theorem final_6 : (dats m 0 c).arrAt 6 cfg0.N = res6 m c := by
  refine (dats m 0 c).arrAt_eq_of_covers 6 _ (by decide +kernel) fun t hf y => ?_
  blk_simp [Value.flushed6]
  have ht : t.val % 8 = 7 := (flush0_6 t).mp hf
  have hl := lt_N t
  rw [after0_6]
  idx_vars y
  obtain rfl : y0 = 0 := Subsingleton.elim _ _
  refine (last_6 m c t ht y1 y2).trans ?_
  unfold res6 pl
  congr 1 <;> refine Fin.ext ?_ <;> blk_simp [idx_in t] <;> (try dsimp only) <;> omega

/-- The normalised rows after the run. -/
theorem final_7 : (dats m 0 c).arrAt 7 cfg0.N = res7 m c := by
  refine (dats m 0 c).arrAt_eq_of_covers 7 _ (by decide +kernel) fun t hf y => ?_
  blk_simp [Value.flushed7]
  have ht : t.val % 8 = 7 := (flush0_7 t).mp hf
  have hl := lt_N t
  rw [after0_7]
  idx_vars y
  obtain rfl : y0 = 0 := Subsingleton.elim _ _
  refine (last_7 m c t ht y1 y2).trans ?_
  unfold res7 pl
  congr 1 <;> refine Fin.ext ?_ <;> blk_simp [idx_in t] <;> (try dsimp only) <;> omega

end Cert.OProjIdeal.Hand

end
-- ==== Proof.OProjClaims.lean ====
/-
  The output projection's claims: its frames, and that the ideal kernel computes the reference's two results.
-/
module

public import proofs.«01_k».proof.Defs
public import proofs.«01_k».proof.Proof.OProjArrays
public import proofs.«01_k».proof.Proof.Gen.OProj.Frame
public import proofs.«01_k».proof.Proof.Gen.OProjRefIdeal.Run
public import proofs.«01_k».proof.Proof.Gen.OProjRefIdeal.Read

@[expose] public section

set_option maxRecDepth 16384

noncomputable section

open Idealize.ShloMosaic Idealize.ShloMosaic.TcCoe Idealize.SL.Sem

namespace Cert.OProjRefIdeal.Hand

open Cert.OProjRefIdeal Cert.OProjRefIdeal.Gen Cert.OProjRefIdeal.Read
open Cert.OProjIdeal.Hand (rms mid rows PROJ XROW XOUT HOUT)

variable (A : Vec Ideal S16x576x4096 .bf16) (W : Vec Ideal S4096x4096 .bf16) (S : Vec Ideal S128x8x4096 .f32) (X : Vec Ideal S4x2048x4096 .f32) (g g' : Vec Ideal S1x4096 .f32)

/-- The residual's rows, plane by plane. -/
theorem row_apply (p : Fin 16) (r : Fin 576) (q : Fin 4096) : val_main_v3 (F := Ideal) S X (ix3 p r q) = XROW S X p r q := by
  unfold val_main_v3 val_main_v2 val_main_v1 val_main_v0 XROW rows
  pointwise

/-- The projection. -/
theorem proj_apply (p : Fin 16) (r : Fin 576) (q : Fin 4096) : val_main_v6 (F := Ideal) A W (ix3 p r q) = PROJ A W p r q := by
  unfold val_main_v6 val_main_v5 val_main_v4 PROJ
  pointwise

/-- The projection normalised. -/
theorem norm_apply (p : Fin 16) (r : Fin 576) (q : Fin 4096) :
    val_main_v20 (F := Ideal) A W g (ix3 p r q) = rms (PROJ A W p r) (fun l => g (ix2 0 l)) q := by
  unfold val_main_v20 val_main_v19 val_main_v18 val_main_v17 val_main_v16 val_main_v15 val_main_v14 val_main_v13 val_main_cst_1 val_main_v12 val_main_v11 val_main_cst_0 val_main_v10 val_main_v9 val_main_cst val_main_v8 val_main_v7
  pointwise [rms, proj_apply]

/-- The first result, element by element. -/
theorem x_apply (p : Fin 16) (r : Fin 576) (q : Fin 4096) :
    val_main_v21 (F := Ideal) A W S X g (ix3 p r q) = XOUT A W S X g p r q := by
  unfold val_main_v21
  pointwise [XOUT, mid, row_apply, norm_apply]

/-- The second result, element by element. -/
theorem h_apply (p : Fin 16) (r : Fin 576) (q : Fin 4096) :
    val_main_v36 (F := Ideal) A W S X g g' (ix3 p r q) = HOUT A W S X g g' p r q := by
  unfold val_main_v36 val_main_v35 val_main_v34 val_main_v33 val_main_v32 val_main_v31 val_main_v30 val_main_v29 val_main_v28 val_main_cst_4 val_main_v27 val_main_v26 val_main_cst_3 val_main_v25 val_main_v24 val_main_cst_2 val_main_v23 val_main_v22
  pointwise [HOUT, rms, x_apply]

/-- The first result, element by element. -/
theorem x_at (i : S16x576x4096.Idx) : val_main_v21 (F := Ideal) A W S X g i = XOUT A W S X g (i 0) (i 1) (i 2) := by
  idx_vars i
  exact x_apply A W S X g i0 i1 i2

/-- The second result, element by element. -/
theorem h_at (i : S16x576x4096.Idx) : val_main_v36 (F := Ideal) A W S X g g' i = HOUT A W S X g g' (i 0) (i 1) (i 2) := by
  idx_vars i
  exact h_apply A W S X g g' i0 i1 i2

end Cert.OProjRefIdeal.Hand

namespace Cert.Proof.OProjClaims

/-- The kernel's frame: its arguments unchanged, its counters at zero. -/
theorem frame : Cert.quiescent_OProj := fun m ρ _ => Cert.OProj.Gen.frame m ρ

/-- The same of its ideal form. -/
theorem frameIdeal : Cert.quiescent_OProjIdeal := fun m ρ _ => Cert.OProjIdeal.Gen.frame m ρ

/-- The same of the reference, which declares no counter. -/
theorem frameRef : Cert.quiescent_OProjRefIdeal := fun m ρ _ =>
  (θ_run Cert.OProjRefIdeal.defs _ _).mono
    (fun r h => ⟨fun c => (h c).2.2, sem_eq_zero_of_no_sems (by decide) r.2⟩)
    (Cert.OProjRefIdeal.Value.run (F := Ideal) m ρ)

open Cert.OProjIdeal.Hand Cert.OProjRefIdeal.Hand Cert.OProjRefIdeal.Read in
/-- The results of the ideal kernel are the reference's, over the extended reals. -/
theorem algebraic : Cert.algebraic_OProjIdeal_OProjRefIdeal := by
  intro m ρ m' ρ' _ hagree
  refine ⟨fun c => res6 m c, fun c => res7 m c, ?_, ?_⟩
  · exact (θ_run Cert.OProjIdeal.defs _ _).mono
      (fun _ h c => ⟨(h c).1.trans (final_6 m c), (h c).2.1.trans (final_7 m c), (h c).2.2⟩)
      (Cert.OProjIdeal.Value.run_blocks (F := Ideal) m ρ)
  · refine (θ_run Cert.OProjRefIdeal.defs _ _).mono (fun _ h c => ⟨(h c).1.trans ?_, (h c).2.1.trans ?_, (h c).2.2⟩)
      (Cert.OProjRefIdeal.Value.run (F := Ideal) m' ρ')
    · obtain ⟨e0, e1, e2, e3, e4, e5⟩ := hagree c
      rw [e0, e1, e2, e3, e4]
      exact (val_main_v21_eq _ _ _ _ _).trans (funext fun i => x_at _ _ _ _ _ i)
    · obtain ⟨e0, e1, e2, e3, e4, e5⟩ := hagree c
      rw [val_main_v36_eq, e0, e1, e2, e3, e4, e5]
      exact funext fun i => h_at _ _ _ _ _ _ i

end Cert.Proof.OProjClaims

end
-- ==== Proof.PreNormStep.lean ====
/-
  One grid point of the first normalisation: what the body leaves in its output block, element by element over the extended
  reals. A plane's rows are 64 of sample runs, 512 of prompt runs and 4 copies of the plane's leading token.
-/
module

public import proofs.«01_k».proof.Proof.Gen.PreNormIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.PreNormIdeal.Hand

open Cert.PreNormIdeal Cert.PreNormIdeal.Gen

/-- One element of a normalised row `a`, scaled by `g`. -/
def rms (a g : Fin 4096 → EReal) (q : Fin 4096) : EReal :=
  a q * Ideal.rsqrt (Ideal.div (∑ l : Fin 4096, a l * a l) (Ideal.ofBits .f32 0x45800000#32) + (Ideal.ofBits .f32 0x358637BD#32)) * g q

/-- A plane's row `r`, from its sample rows, its prompt rows and its leading token. -/
def rows (s : Fin 64 → Fin 4096 → EReal) (p : Fin 512 → Fin 4096 → EReal) (l : Fin 4096 → EReal) (r : ℕ) (q : Fin 4096) : EReal :=
  if h : r < 64 then s ⟨r, h⟩ q else if h' : r < 576 then p ⟨r - 64, by omega⟩ q else l q

/-- A sample row of a plane. -/
theorem rows_sample (s : Fin 64 → Fin 4096 → EReal) (p : Fin 512 → Fin 4096 → EReal) (l : Fin 4096 → EReal) (r : ℕ) (k : Fin 64)
    (h : r = k.val) (q : Fin 4096) : rows s p l r q = s k q := by
  subst h
  exact dif_pos k.isLt

/-- A prompt row of a plane. -/
theorem rows_prompt (s : Fin 64 → Fin 4096 → EReal) (p : Fin 512 → Fin 4096 → EReal) (l : Fin 4096 → EReal) (r : ℕ) (k : Fin 512)
    (h : r = 64 + k.val) (q : Fin 4096) : rows s p l r q = p k q := by
  subst h
  unfold rows
  rw [dif_neg (by omega), dif_pos (by omega)]
  congr 2
  omega

/-- A leading row of a plane. -/
theorem rows_lead (s : Fin 64 → Fin 4096 → EReal) (p : Fin 512 → Fin 4096 → EReal) (l : Fin 4096 → EReal) (r : ℕ)
    (h : 576 ≤ r) (q : Fin 4096) : rows s p l r q = l q := by
  unfold rows
  rw [dif_neg (by omega), dif_neg (by omega)]

variable (c : Dev nD) (i : grid0.Coords)
    (a1 : Memref sig .tc .vmem S64x4096 .f32) (h1 : a1.IsWhole)
    (a2 : Memref sig .tc .vmem S512x4096 .f32) (h2 : a2.IsWhole)
    (a3 : Memref sig .tc .vmem S16x4096 .f32) (h3 : a3.IsWhole)
    (a4 : Memref sig .tc .vmem S1x4096 .f32) (h4 : a4.IsWhole)
    (a5 : Memref sig .tc .vmem S1x580x4096 .bf16) (h5 : a5.IsWhole)
    (x0 : Vec Ideal S64x4096 .f32) (x1 : Vec Ideal S512x4096 .f32) (x2 : Vec Ideal S16x4096 .f32) (x3 : Vec Ideal S1x4096 .f32)

omit c in
/-- The leading token is read at the plane's own row. -/
theorem lead_at (x : Fin 4096) (h : k0_off1 i 0 < 16) (h' : k0_off1 i 1 + x.val < 4096) :
    (ix2 ⟨k0_off1 i 0, h⟩ ⟨k0_off1 i 1 + x.val, h'⟩ : S16x4096.Idx) = ix2 (i 0) x := by
  congr 1
  · exact Fin.ext (by show k0_off1 i 0 = (i 0).val; rw [k0_off1_eq]; rfl)
  · exact Fin.ext (by show k0_off1 i 1 + x.val = x.val; rw [k0_off1_eq]; exact Nat.zero_add _)

/-- The block holds every row normalised. -/
theorem out_4 (r : Fin 580) (q : Fin 4096) :
    out0_A_4 (F := Ideal) c i a1 h1 a2 h2 a3 h3 a4 h4 a5 h5 x0 x1 x2 x3 (ix3 0 r q)
      = rms (rows (fun r l => x0 (ix2 r l)) (fun r l => x1 (ix2 r l)) (fun l => x2 (ix2 (i 0) l)) r.val) (fun l => x3 (ix2 0 l)) q := by
  frame_out
  canon_tiles y e using (View.cover_of_tiledBy _ ![1, 4, 4096] (by sl_kernel_rfl) _)
  all_goals
    idx_vars y
    obtain rfl : q = y2 := Fin.ext e2
    unfold_payloads
    pointwise [rms]
    clear e0 e2
  case piece0 =>
    simp only [rows_lead _ _ _ r.val (by omega), lead_at]
    rfl
  case piece5 => simp only [rows_sample _ _ _ r.val y1 e1]
  case piece1 => simp only [rows_prompt _ _ _ r.val ⟨384 + y1.val, by omega⟩ (by dsimp only; omega)]
  case piece2 => simp only [rows_prompt _ _ _ r.val ⟨256 + y1.val, by omega⟩ (by dsimp only; omega)]
  case piece3 => simp only [rows_prompt _ _ _ r.val ⟨128 + y1.val, by omega⟩ (by dsimp only; omega)]
  case piece4 => simp only [rows_prompt _ _ _ r.val ⟨y1.val, by omega⟩ (by dsimp only; omega)]

end Cert.PreNormIdeal.Hand

end
-- ==== Proof.PreNormArrays.lean ====
/-
  The first normalisation's array after the run, as a function of the argument arrays: each point writes one plane.
-/
module

public import proofs.«01_k».proof.Proof.PreNormStep
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PreNormIdeal.Hand

open Cert.PreNormIdeal Cert.PreNormIdeal.Gen

/-- The rows of plane `p`: two sample sequences to a row, then 128 runs to a prompt, then the plane's leading token. -/
def XROW (X : Vec Ideal S4x2048x4096 .f32) (S : Vec Ideal S128x8x4096 .f32) (T : Vec Ideal S16x4096 .f32)
    (p : Fin 16) (r : ℕ) (q : Fin 4096) : EReal :=
  rows (fun r l => S (ix3 ⟨r.val * 2 + p.val / 8, by omega⟩ ⟨p.val % 8, by omega⟩ l))
    (fun r l => X (ix3 ⟨r.val / 128, by omega⟩ ⟨r.val % 128 * 16 + p.val, by omega⟩ l)) (fun l => T (ix2 p l)) r q

/-- The normalised rows. -/
def HOUT (X : Vec Ideal S4x2048x4096 .f32) (S : Vec Ideal S128x8x4096 .f32) (T : Vec Ideal S16x4096 .f32) (g : Vec Ideal S1x4096 .f32)
    (p : Fin 16) (r : Fin 580) (q : Fin 4096) : EReal :=
  rms (XROW X S T p r.val) (fun l => g (ix2 0 l)) q

/-- Each window's block index at a point, which is the point's plane, and its place in the grid. -/
theorem idx_in : ∀ t : Fin cfg0.N,
    win0_0.index t = ![0, t.val] ∧ win0_1.index t = ![0, t.val] ∧ win0_2.index t = ![0, 0] ∧ win0_3.index t = ![0, 0]
      ∧ win0_4.index t = ![t.val, 0, 0] ∧ (grid0.coords t 0).val = t.val := by
  decide +kernel

variable (m : (ℓ : Loc nD τ sig) → Buf (Elt Ideal) ℓ) (c : Dev nD)

abbrev aX : Vec Ideal S4x2048x4096 .f32 := m ((c : Thread nD τ).loc main_arg0)
abbrev aS : Vec Ideal S128x8x4096 .f32 := m ((c : Thread nD τ).loc main_arg1)
abbrev aT : Vec Ideal S16x4096 .f32 := m ((c : Thread nD τ).loc main_arg2)
abbrev aG : Vec Ideal S1x4096 .f32 := m ((c : Thread nD τ).loc main_arg3)

/-- A point's number is below the grid's size. -/
theorem lt_N (t : Fin cfg0.N) : t.val < 16 := Nat.lt_of_lt_of_eq t.isLt N_0

/-- A point's plane. -/
def pl (t : Fin cfg0.N) : Fin 16 := ⟨t.val, lt_N t⟩

/-- The sample rows at the region's entry, a plane beside the other. -/
theorem vS (r : Fin 64) (p : Fin 16) (l : Fin 4096) :
    (V m c main_v0 : Vec Ideal S64x65536 .f32) (ix2 r ⟨4096 * p.val + l.val, by omega⟩)
      = aS m c (ix3 ⟨r.val * 2 + p.val / 8, by omega⟩ ⟨p.val % 8, by omega⟩ l) := by
  unfold V; after_reads_at
  congr 2 <;> refine Fin.ext ?_ <;> (try dsimp only) <;> omega

/-- The prompt rows at the region's entry. -/
theorem vX (r : Fin 512) (p : Fin 16) (l : Fin 4096) :
    (V m c main_v1 : Vec Ideal S512x65536 .f32) (ix2 r ⟨4096 * p.val + l.val, by omega⟩)
      = aX m c (ix3 ⟨r.val / 128, by omega⟩ ⟨r.val % 128 * 16 + p.val, by omega⟩ l) := by
  unfold V; after_reads_at
  congr 2 <;> refine Fin.ext ?_ <;> (try dsimp only) <;> omega

theorem b0 (t : Fin cfg0.N) (r : Fin 64) (l : Fin 4096) :
    (iblk m c 0 t : Vec Ideal S64x4096 .f32) (ix2 r l) = aS m c (ix3 ⟨r.val * 2 + (pl t).val / 8, by omega⟩ ⟨(pl t).val % 8, by omega⟩ l) := by
  rw [← vS]
  blk_ext [iblk, idx_in t, pl]

theorem b1 (t : Fin cfg0.N) (r : Fin 512) (l : Fin 4096) :
    (iblk m c 1 t : Vec Ideal S512x4096 .f32) (ix2 r l)
      = aX m c (ix3 ⟨r.val / 128, by omega⟩ ⟨r.val % 128 * 16 + (pl t).val, by omega⟩ l) := by
  rw [← vX]
  blk_ext [iblk, idx_in t, pl]

theorem b2 (t : Fin cfg0.N) (k : Fin 16) (l : Fin 4096) : (iblk m c 2 t : Vec Ideal S16x4096 .f32) (ix2 k l) = aT m c (ix2 k l) := by
  unfold aT; rw [← V_main_arg2 m c]
  blk_ext [iblk, idx_in t]

theorem b3 (t : Fin cfg0.N) (q : Fin 4096) : (iblk m c 3 t : Vec Ideal S1x4096 .f32) (ix2 0 q) = aG m c (ix2 0 q) := by
  unfold aG; rw [← V_main_arg3 m c]
  blk_ext [iblk, idx_in t]

/-- What a point leaves in its block. -/
theorem at_point (t : Fin cfg0.N) (r : Fin 580) (q : Fin 4096) :
    (outsAt0 m c t : Vec Ideal S1x580x4096 .bf16) (ix3 0 r q) = HOUT (aX m c) (aS m c) (aT m c) (aG m c) (pl t) r q := by
  unfold outsAt0
  refine (out_4 _ _ _ _ _ _ _ _ _ _ _ _ _ _ _ _ r q).trans ?_
  have e : grid0.coords t 0 = pl t := Fin.ext (idx_in t).2.2.2.2.2
  unfold HOUT XROW
  simp only [b0, b1, b2, b3, e]

/-- The result's array after the run. -/
def res4 (i : S16x580x4096.Idx) : EReal := HOUT (aX m c) (aS m c) (aT m c) (aG m c) (i 0) (i 1) (i 2)

/-- The normed rows after the run. -/
theorem final_4 : (dats m 0 c).arrAt 4 cfg0.N = res4 m c := by
  refine (dats m 0 c).arrAt_eq_of_covers 4 _ (by decide +kernel) fun t hf y => ?_
  blk_simp [Value.flushed4]
  have hl := lt_N t
  rw [after0_4]
  idx_vars y
  obtain rfl : y0 = 0 := Subsingleton.elim _ _
  refine (at_point m c t y1 y2).trans ?_
  unfold res4 pl
  congr 1 <;> refine Fin.ext ?_ <;> blk_simp [idx_in t] <;> (try dsimp only) <;> omega

end Cert.PreNormIdeal.Hand

end
-- ==== Proof.PreNormClaims.lean ====
/-
  The first normalisation's claims: its frames, and that the ideal kernel computes the reference's result.
-/
module

public import proofs.«01_k».proof.Defs
public import proofs.«01_k».proof.Proof.PreNormArrays
public import proofs.«01_k».proof.Proof.Gen.PreNorm.Frame
public import proofs.«01_k».proof.Proof.Gen.PreNormRefIdeal.Run
public import proofs.«01_k».proof.Proof.Gen.PreNormRefIdeal.Read

@[expose] public section

set_option maxRecDepth 16384

noncomputable section

open Idealize.ShloMosaic Idealize.ShloMosaic.TcCoe Idealize.SL.Sem

namespace Cert.PreNormRefIdeal.Hand

open Cert.PreNormRefIdeal Cert.PreNormRefIdeal.Gen Cert.PreNormRefIdeal.Read
open Cert.PreNormIdeal.Hand (rms rows XROW HOUT)

variable (X : Vec Ideal S4x2048x4096 .f32) (S : Vec Ideal S128x8x4096 .f32) (T : Vec Ideal S16x4096 .f32) (g : Vec Ideal S1x4096 .f32)

/-- The rows, run by run. -/
theorem row_apply (r : Fin 580) (p : Fin 16) (q : Fin 4096) : val_main_v4 (F := Ideal) X S T (ix3 r p q) = XROW X S T p r.val q := by
  unfold val_main_v4 val_main_v3 val_main_v2 val_main_v1 val_main_v0 XROW rows
  pointwise
  rcases Nat.lt_or_ge r.val 64 with h | h
  · rw [dif_pos h, dif_pos h]
  · rw [dif_neg (show ¬r.val < 64 by omega), dif_neg (show ¬r.val < 64 by omega)]
    rcases Nat.lt_or_ge r.val 576 with h' | h'
    · rw [dif_pos (show r.val - 64 < 512 by omega), dif_pos h']
    · rw [dif_neg (show ¬r.val - 64 < 512 by omega), dif_neg (show ¬r.val < 576 by omega)]

/-- The result, element by element. -/
theorem res_apply (i : S16x580x4096.Idx) : val_main_v20 (F := Ideal) X S T g i = HOUT X S T g (i 0) (i 1) (i 2) := by
  idx_vars i
  unfold val_main_v20 val_main_v19 val_main_v18 val_main_v17 val_main_v16 val_main_v15 val_main_v14 val_main_v13 val_main_v12 val_main_v11 val_main_cst_1 val_main_v10 val_main_v9 val_main_cst_0 val_main_v8 val_main_v7 val_main_cst val_main_v6 val_main_v5
  pointwise [HOUT, rms, row_apply]

end Cert.PreNormRefIdeal.Hand

namespace Cert.Proof.PreNormClaims

/-- The kernel's frame: its arguments unchanged, its counters at zero. -/
theorem frame : Cert.quiescent_PreNorm := fun m ρ _ => Cert.PreNorm.Gen.frame m ρ

/-- The same of its ideal form. -/
theorem frameIdeal : Cert.quiescent_PreNormIdeal := fun m ρ _ => Cert.PreNormIdeal.Gen.frame m ρ

/-- The same of the reference, which declares no counter. -/
theorem frameRef : Cert.quiescent_PreNormRefIdeal := fun m ρ _ =>
  (θ_run Cert.PreNormRefIdeal.defs _ _).mono
    (fun r h => ⟨fun c => (h c).2, sem_eq_zero_of_no_sems (by decide) r.2⟩)
    (Cert.PreNormRefIdeal.Value.run (F := Ideal) m ρ)

open Cert.PreNormIdeal.Hand Cert.PreNormRefIdeal.Hand Cert.PreNormRefIdeal.Read in
/-- The result of the ideal kernel is the reference's, over the extended reals. -/
theorem algebraic : Cert.algebraic_PreNormIdeal_PreNormRefIdeal := by
  intro m ρ m' ρ' _ hagree
  refine ⟨fun c => res4 m c, ?_, ?_⟩
  · exact (θ_run Cert.PreNormIdeal.defs _ _).mono
      (fun _ h c => ⟨(h c).1.trans (final_4 m c), (h c).2⟩)
      (Cert.PreNormIdeal.Value.run_blocks (F := Ideal) m ρ)
  · refine (θ_run Cert.PreNormRefIdeal.defs _ _).mono (fun _ h c => ⟨(h c).1.trans ?_, (h c).2⟩)
      (Cert.PreNormRefIdeal.Value.run (F := Ideal) m' ρ')
    obtain ⟨e0, e1, e2, e3⟩ := hagree c
    rw [e0, e1, e2, e3]
    exact (val_main_v20_eq _ _ _ _).trans (funext fun i => res_apply _ _ _ _ i)

end Cert.Proof.PreNormClaims

end
-- ==== Proof.S5Claims.lean ====
/-
  The S5 call's claims: the frames of the kernel and of its ideal form.
-/
module

public import proofs.«01_k».proof.Defs
public import proofs.«01_k».proof.Proof.Gen.S5.Frame
public import proofs.«01_k».proof.Proof.Gen.S5Ideal.Frame

@[expose] public section

set_option maxRecDepth 16384

noncomputable section

open Idealize.ShloMosaic Idealize.SL.Sem

namespace Cert.Proof.S5Claims

/-- The kernel's frame: its arguments unchanged, its counters at zero. -/
theorem frame : Cert.quiescent_S5 := fun m ρ _ => Cert.S5.Gen.frame m ρ

/-- The same of its ideal form. -/
theorem frameIdeal : Cert.quiescent_S5Ideal := fun m ρ _ => Cert.S5Ideal.Gen.frame m ρ

end Cert.Proof.S5Claims

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Conv.Frame
public import proofs.«01_k».proof.Proof.Gen.ConvIdeal.Frame
public import proofs.«01_k».proof.Proof.Gen.ConvRefIdeal.Run
public import proofs.«01_k».proof.Proof.Gen.ConvRefIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OProj.Frame
public import proofs.«01_k».proof.Proof.Gen.OProjIdeal.Frame
public import proofs.«01_k».proof.Proof.Gen.OProjIdeal.Value
public import proofs.«01_k».proof.Proof.Gen.OProjRefIdeal.Run
public import proofs.«01_k».proof.Proof.Gen.OProjRefIdeal.Read
public import proofs.«01_k».proof.Proof.Gen.PreNorm.Frame
public import proofs.«01_k».proof.Proof.Gen.PreNormIdeal.Frame
public import proofs.«01_k».proof.Proof.Gen.PreNormIdeal.Value
public import proofs.«01_k».proof.Proof.Gen.PreNormRefIdeal.Run
public import proofs.«01_k».proof.Proof.Gen.PreNormRefIdeal.Read
public import proofs.«01_k».proof.Proof.Gen.S5
public import proofs.«01_k».proof.Proof.Gen.S5.Frame
public import proofs.«01_k».proof.Proof.Gen.S5Ideal
public import proofs.«01_k».proof.Proof.Gen.S5Ideal.Frame
public import proofs.«01_k».proof.Proof.FfnClaims
public import proofs.«01_k».proof.Proof.InProjClaims
public import proofs.«01_k».proof.Proof.ConvClaims
public import proofs.«01_k».proof.Proof.MergeClaims
public import proofs.«01_k».proof.Proof.OProjClaims
public import proofs.«01_k».proof.Proof.PreNormClaims
public import proofs.«01_k».proof.Proof.S5Claims
public import Idealize.ShloMosaic.Adequacy
public import Idealize.ShloMosaic.Init

@[expose] public section

noncomputable section

namespace Cert.Proof

open Idealize.ShloMosaic Idealize.SL.Sem

/-- Every claim about the seven calls. -/
theorem claim : Cert.Claim := ⟨Cert.Ffn.Gen.facts, Cert.FfnIdeal.Gen.facts, Cert.FfnRefIdeal.Gen.facts, Cert.InProj.Gen.facts, Cert.InProjIdeal.Gen.facts, Cert.InProjRefIdeal.Gen.facts, Cert.Conv.Gen.facts, Cert.ConvIdeal.Gen.facts, Cert.ConvRefIdeal.Gen.facts, Cert.Merge.Gen.facts, Cert.MergeIdeal.Gen.facts, Cert.MergeRefIdeal.Gen.facts, Cert.OProj.Gen.facts, Cert.OProjIdeal.Gen.facts, Cert.OProjRefIdeal.Gen.facts, Cert.PreNorm.Gen.facts, Cert.PreNormIdeal.Gen.facts, Cert.PreNormRefIdeal.Gen.facts, Cert.S5.Gen.facts, Cert.S5Ideal.Gen.facts,
  FfnClaims.frame, FfnClaims.frameIdeal, FfnClaims.frameRef, InProjClaims.frame, InProjClaims.frameIdeal, InProjClaims.frameRef, ConvClaims.frame, ConvClaims.frameIdeal, ConvClaims.frameRef, MergeClaims.frame, MergeClaims.frameIdeal, MergeClaims.frameRef, OProjClaims.frame, OProjClaims.frameIdeal, OProjClaims.frameRef, PreNormClaims.frame, PreNormClaims.frameIdeal, PreNormClaims.frameRef, S5Claims.frame, S5Claims.frameIdeal,
  trivial, FfnClaims.algebraic, trivial, InProjClaims.algebraic, trivial, ConvClaims.algebraic, trivial, MergeClaims.algebraic, trivial, OProjClaims.algebraic, trivial, PreNormClaims.algebraic, trivial⟩

end Cert.Proof

end
